-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S2048x2048 : Shape := ⟨2, ![2048, 2048]⟩
abbrev S3x512x1024 : Shape := ⟨3, ![3, 512, 1024]⟩
abbrev S6 : Shape := ⟨1, ![6]⟩
abbrev S_ : Shape := ⟨0, ![]⟩
abbrev S512x512 : Shape := ⟨2, ![512, 512]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .local _ .vmem, ⟨0, _⟩ => ⟨S2048x512, .f32⟩
  | .local _ .vmem, ⟨1, _⟩ => ⟨S512x2048, .f32⟩
  | .local _ .vmem, ⟨2, _⟩ => ⟨S2048x2048, .f32⟩
  | .local _ .vmem, ⟨3, _⟩ => ⟨S512x2048, .f32⟩
  | .local _ .vmem, ⟨4, _⟩ => ⟨S3x512x1024, .f32⟩
  | .local _ .vmem, ⟨5, _⟩ => ⟨S3x512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v30 : BitVec 32 := Scalar.muli v2 c512_i32
  let v31 : Index := Scalar.indexCast v30
  let c0 : Index := 0#32
  ![v31.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26 : BitVec 32 := 1#32
  let v40 : BitVec 32 := Scalar.muli v24 c1_i32_26
  let v41 : BitVec 32 := Scalar.addi c0_i32_27 v40
  v41.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v49 : BitVec 32 := Scalar.muli v13 c1_i32_35
  let v50 : BitVec 32 := Scalar.addi c0_i32_36 v49
  v50.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v58 : BitVec 32 := Scalar.subi v2 c1_i32_40
  let c4_i32_41 : BitVec 32 := 4#32
  let c0_i32_42 : BitVec 32 := 0#32
  let v59 : BitVec 1 := Scalar.cmpi .eq c4_i32_41 c0_i32_42
  let c1_i32_43 : BitVec 32 := 1#32
  let v60 : BitVec 32 := Scalar.select v59 c1_i32_43 c4_i32_41
  let v61 : BitVec 32 := Scalar.remsi v58 v60
  let c0_i32_45 : BitVec 32 := 0#32
  let v63 : BitVec 1 := Scalar.cmpi .slt v61 c0_i32_45
  let c0_i32_46 : BitVec 32 := 0#32
  let v64 : BitVec 1 := Scalar.cmpi .slt v60 c0_i32_46
  let v65 : BitVec 1 := Scalar.xori v63 v64
  let c0_i32_44 : BitVec 32 := 0#32
  let v62 : BitVec 1 := Scalar.cmpi .ne v61 c0_i32_44
  let v66 : BitVec 1 := Scalar.andi v65 v62
  let v67 : BitVec 32 := Scalar.addi v61 v60
  let v68 : BitVec 32 := Scalar.select v66 v67 v61
  let c512_i32_47 : BitVec 32 := 512#32
  let v69 : BitVec 32 := Scalar.muli v68 c512_i32_47
  let v70 : Index := Scalar.indexCast v69
  let c0_48 : Index := 0#32
  ![v70.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v58 : BitVec 32 := Scalar.subi v2 c1_i32_40
  let c4_i32_41 : BitVec 32 := 4#32
  let c0_i32_42 : BitVec 32 := 0#32
  let v59 : BitVec 1 := Scalar.cmpi .eq c4_i32_41 c0_i32_42
  let c1_i32_43 : BitVec 32 := 1#32
  let v60 : BitVec 32 := Scalar.select v59 c1_i32_43 c4_i32_41
  let v61 : BitVec 32 := Scalar.remsi v58 v60
  let c0_i32_45 : BitVec 32 := 0#32
  let v63 : BitVec 1 := Scalar.cmpi .slt v61 c0_i32_45
  let c0_i32_46 : BitVec 32 := 0#32
  let v64 : BitVec 1 := Scalar.cmpi .slt v60 c0_i32_46
  let v65 : BitVec 1 := Scalar.xori v63 v64
  let c0_i32_44 : BitVec 32 := 0#32
  let v62 : BitVec 1 := Scalar.cmpi .ne v61 c0_i32_44
  let v66 : BitVec 1 := Scalar.andi v65 v62
  let v67 : BitVec 32 := Scalar.addi v61 v60
  let v68 : BitVec 32 := Scalar.select v66 v67 v61
  let c512_i32_52 : BitVec 32 := 512#32
  let v76 : BitVec 32 := Scalar.muli v68 c512_i32_52
  let v77 : Index := Scalar.indexCast v76
  let c0_53 : Index := 0#32
  ![v77.toNat, 0]
def k0_off4 (d0 : Dev nD) (c1_i32_54 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v79 : BitVec 32 := Scalar.addi v2 c1_i32_54
  let c4_i32_55 : BitVec 32 := 4#32
  let c0_i32_56 : BitVec 32 := 0#32
  let v80 : BitVec 1 := Scalar.cmpi .eq c4_i32_55 c0_i32_56
  let c1_i32_57 : BitVec 32 := 1#32
  let v81 : BitVec 32 := Scalar.select v80 c1_i32_57 c4_i32_55
  let v82 : BitVec 32 := Scalar.remsi v79 v81
  let c0_i32_59 : BitVec 32 := 0#32
  let v84 : BitVec 1 := Scalar.cmpi .slt v82 c0_i32_59
  let c0_i32_60 : BitVec 32 := 0#32
  let v85 : BitVec 1 := Scalar.cmpi .slt v81 c0_i32_60
  let v86 : BitVec 1 := Scalar.xori v84 v85
  let c0_i32_58 : BitVec 32 := 0#32
  let v83 : BitVec 1 := Scalar.cmpi .ne v82 c0_i32_58
  let v87 : BitVec 1 := Scalar.andi v86 v83
  let v88 : BitVec 32 := Scalar.addi v82 v81
  let v89 : BitVec 32 := Scalar.select v87 v88 v82
  let c512_i32_61 : BitVec 32 := 512#32
  let v90 : BitVec 32 := Scalar.muli v89 c512_i32_61
  let v91 : Index := Scalar.indexCast v90
  let c0_62 : Index := 0#32
  ![v91.toNat, 0]
def k0_off5 (d0 : Dev nD) (c1_i32_54 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v79 : BitVec 32 := Scalar.addi v2 c1_i32_54
  let c4_i32_55 : BitVec 32 := 4#32
  let c0_i32_56 : BitVec 32 := 0#32
  let v80 : BitVec 1 := Scalar.cmpi .eq c4_i32_55 c0_i32_56
  let c1_i32_57 : BitVec 32 := 1#32
  let v81 : BitVec 32 := Scalar.select v80 c1_i32_57 c4_i32_55
  let v82 : BitVec 32 := Scalar.remsi v79 v81
  let c0_i32_59 : BitVec 32 := 0#32
  let v84 : BitVec 1 := Scalar.cmpi .slt v82 c0_i32_59
  let c0_i32_60 : BitVec 32 := 0#32
  let v85 : BitVec 1 := Scalar.cmpi .slt v81 c0_i32_60
  let v86 : BitVec 1 := Scalar.xori v84 v85
  let c0_i32_58 : BitVec 32 := 0#32
  let v83 : BitVec 1 := Scalar.cmpi .ne v82 c0_i32_58
  let v87 : BitVec 1 := Scalar.andi v86 v83
  let v88 : BitVec 32 := Scalar.addi v82 v81
  let v89 : BitVec 32 := Scalar.select v87 v88 v82
  let c512_i32_66 : BitVec 32 := 512#32
  let v97 : BitVec 32 := Scalar.muli v89 c512_i32_66
  let v98 : Index := Scalar.indexCast v97
  let c0_67 : Index := 0#32
  ![v98.toNat, 0]
def k0_off6 (d0 : Dev nD) (c0_i32_82 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.subi v2 c0_i32_82
  let c1_i32_83 : BitVec 32 := 1#32
  let v122 : BitVec 32 := Scalar.subi v121 c1_i32_83
  let c4_i32_84 : BitVec 32 := 4#32
  let c0_i32_85 : BitVec 32 := 0#32
  let v123 : BitVec 1 := Scalar.cmpi .eq c4_i32_84 c0_i32_85
  let c1_i32_86 : BitVec 32 := 1#32
  let v124 : BitVec 32 := Scalar.select v123 c1_i32_86 c4_i32_84
  let v125 : BitVec 32 := Scalar.remsi v122 v124
  let c0_i32_88 : BitVec 32 := 0#32
  let v127 : BitVec 1 := Scalar.cmpi .slt v125 c0_i32_88
  let c0_i32_89 : BitVec 32 := 0#32
  let v128 : BitVec 1 := Scalar.cmpi .slt v124 c0_i32_89
  let v129 : BitVec 1 := Scalar.xori v127 v128
  let c0_i32_87 : BitVec 32 := 0#32
  let v126 : BitVec 1 := Scalar.cmpi .ne v125 c0_i32_87
  let v130 : BitVec 1 := Scalar.andi v129 v126
  let v131 : BitVec 32 := Scalar.addi v125 v124
  let v132 : BitVec 32 := Scalar.select v130 v131 v125
  let c512_i32_115 : BitVec 32 := 512#32
  let v157 : BitVec 32 := Scalar.muli v132 c512_i32_115
  let v158 : Index := Scalar.indexCast v157
  let c0_116 : Index := 0#32
  ![v158.toNat, 0]
def k0_off7 (d0 : Dev nD) (c0_i32_90 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v133 : BitVec 32 := Scalar.addi v2 c0_i32_90
  let c1_i32_91 : BitVec 32 := 1#32
  let v134 : BitVec 32 := Scalar.addi v133 c1_i32_91
  let c4_i32_92 : BitVec 32 := 4#32
  let c0_i32_93 : BitVec 32 := 0#32
  let v135 : BitVec 1 := Scalar.cmpi .eq c4_i32_92 c0_i32_93
  let c1_i32_94 : BitVec 32 := 1#32
  let v136 : BitVec 32 := Scalar.select v135 c1_i32_94 c4_i32_92
  let v137 : BitVec 32 := Scalar.remsi v134 v136
  let c0_i32_96 : BitVec 32 := 0#32
  let v139 : BitVec 1 := Scalar.cmpi .slt v137 c0_i32_96
  let c0_i32_97 : BitVec 32 := 0#32
  let v140 : BitVec 1 := Scalar.cmpi .slt v136 c0_i32_97
  let v141 : BitVec 1 := Scalar.xori v139 v140
  let c0_i32_95 : BitVec 32 := 0#32
  let v138 : BitVec 1 := Scalar.cmpi .ne v137 c0_i32_95
  let v142 : BitVec 1 := Scalar.andi v141 v138
  let v143 : BitVec 32 := Scalar.addi v137 v136
  let v144 : BitVec 32 := Scalar.select v142 v143 v137
  let c512_i32_139 : BitVec 32 := 512#32
  let v179 : BitVec 32 := Scalar.muli v144 c512_i32_139
  let v180 : Index := Scalar.indexCast v179
  let c1024 : Index := 1024#32
  ![v180.toNat, 1024]
def k0_off8 (d0 : Dev nD) (c0_i32_82 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.subi v2 c0_i32_82
  let c1_i32_83 : BitVec 32 := 1#32
  let v122 : BitVec 32 := Scalar.subi v121 c1_i32_83
  let c4_i32_84 : BitVec 32 := 4#32
  let c0_i32_85 : BitVec 32 := 0#32
  let v123 : BitVec 1 := Scalar.cmpi .eq c4_i32_84 c0_i32_85
  let c1_i32_86 : BitVec 32 := 1#32
  let v124 : BitVec 32 := Scalar.select v123 c1_i32_86 c4_i32_84
  let v125 : BitVec 32 := Scalar.remsi v122 v124
  let c0_i32_88 : BitVec 32 := 0#32
  let v127 : BitVec 1 := Scalar.cmpi .slt v125 c0_i32_88
  let c0_i32_89 : BitVec 32 := 0#32
  let v128 : BitVec 1 := Scalar.cmpi .slt v124 c0_i32_89
  let v129 : BitVec 1 := Scalar.xori v127 v128
  let c0_i32_87 : BitVec 32 := 0#32
  let v126 : BitVec 1 := Scalar.cmpi .ne v125 c0_i32_87
  let v130 : BitVec 1 := Scalar.andi v129 v126
  let v131 : BitVec 32 := Scalar.addi v125 v124
  let v132 : BitVec 32 := Scalar.select v130 v131 v125
  let c512_i32_145 : BitVec 32 := 512#32
  let v189 : BitVec 32 := Scalar.muli v132 c512_i32_145
  let c0_i32_154 : BitVec 32 := 0#32
  ![v189.toNat, 0]
def k0_dev5 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_150 : BitVec 32 := 1#32
  let v191 : BitVec 32 := Scalar.muli v24 c1_i32_150
  let v192 : BitVec 32 := Scalar.addi c0_i32_151 v191
  v192.toNat
def k0_off9 (d0 : Dev nD) (c0_i32_90 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v133 : BitVec 32 := Scalar.addi v2 c0_i32_90
  let c1_i32_91 : BitVec 32 := 1#32
  let v134 : BitVec 32 := Scalar.addi v133 c1_i32_91
  let c4_i32_92 : BitVec 32 := 4#32
  let c0_i32_93 : BitVec 32 := 0#32
  let v135 : BitVec 1 := Scalar.cmpi .eq c4_i32_92 c0_i32_93
  let c1_i32_94 : BitVec 32 := 1#32
  let v136 : BitVec 32 := Scalar.select v135 c1_i32_94 c4_i32_92
  let v137 : BitVec 32 := Scalar.remsi v134 v136
  let c0_i32_96 : BitVec 32 := 0#32
  let v139 : BitVec 1 := Scalar.cmpi .slt v137 c0_i32_96
  let c0_i32_97 : BitVec 32 := 0#32
  let v140 : BitVec 1 := Scalar.cmpi .slt v136 c0_i32_97
  let v141 : BitVec 1 := Scalar.xori v139 v140
  let c0_i32_95 : BitVec 32 := 0#32
  let v138 : BitVec 1 := Scalar.cmpi .ne v137 c0_i32_95
  let v142 : BitVec 1 := Scalar.andi v141 v138
  let v143 : BitVec 32 := Scalar.addi v137 v136
  let v144 : BitVec 32 := Scalar.select v142 v143 v137
  let c512_i32_146 : BitVec 32 := 512#32
  let v190 : BitVec 32 := Scalar.muli v144 c512_i32_146
  let c1024_i32_162 : BitVec 32 := 1024#32
  ![v190.toNat, 1024]
def k0_dev6 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_158 : BitVec 32 := 1#32
  let v200 : BitVec 32 := Scalar.muli v13 c1_i32_158
  let v201 : BitVec 32 := Scalar.addi c0_i32_159 v200
  v201.toNat
def k0_dev7 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_227 : BitVec 32 := 1#32
  let v279 : BitVec 32 := Scalar.muli v24 c1_i32_227
  let v280 : BitVec 32 := Scalar.addi c0_i32_228 v279
  v280.toNat
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_235 : BitVec 32 := 1#32
  let v288 : BitVec 32 := Scalar.muli v13 c1_i32_235
  let v289 : BitVec 32 := Scalar.addi c0_i32_236 v288
  v289.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_299 : BitVec 32 := 1#32
  let v365 : BitVec 32 := Scalar.addi v2 c1_i32_299
  let c4_i32_300 : BitVec 32 := 4#32
  let c0_i32_301 : BitVec 32 := 0#32
  let v366 : BitVec 1 := Scalar.cmpi .eq c4_i32_300 c0_i32_301
  let c1_i32_302 : BitVec 32 := 1#32
  let v367 : BitVec 32 := Scalar.select v366 c1_i32_302 c4_i32_300
  let v368 : BitVec 32 := Scalar.remsi v365 v367
  let c0_i32_304 : BitVec 32 := 0#32
  let v370 : BitVec 1 := Scalar.cmpi .slt v368 c0_i32_304
  let c0_i32_305 : BitVec 32 := 0#32
  let v371 : BitVec 1 := Scalar.cmpi .slt v367 c0_i32_305
  let v372 : BitVec 1 := Scalar.xori v370 v371
  let c0_i32_303 : BitVec 32 := 0#32
  let v369 : BitVec 1 := Scalar.cmpi .ne v368 c0_i32_303
  let v373 : BitVec 1 := Scalar.andi v372 v369
  let v374 : BitVec 32 := Scalar.addi v368 v367
  let v375 : BitVec 32 := Scalar.select v373 v374 v368
  let c512_i32_313 : BitVec 32 := 512#32
  let v387 : BitVec 32 := Scalar.muli v375 c512_i32_313
  let v388 : Index := Scalar.indexCast v387
  let c0_314 : Index := 0#32
  ![v388.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_306 : BitVec 32 := 1#32
  let v376 : BitVec 32 := Scalar.subi v2 c1_i32_306
  let c4_i32_307 : BitVec 32 := 4#32
  let c0_i32_308 : BitVec 32 := 0#32
  let v377 : BitVec 1 := Scalar.cmpi .eq c4_i32_307 c0_i32_308
  let c1_i32_309 : BitVec 32 := 1#32
  let v378 : BitVec 32 := Scalar.select v377 c1_i32_309 c4_i32_307
  let v379 : BitVec 32 := Scalar.remsi v376 v378
  let c0_i32_311 : BitVec 32 := 0#32
  let v381 : BitVec 1 := Scalar.cmpi .slt v379 c0_i32_311
  let c0_i32_312 : BitVec 32 := 0#32
  let v382 : BitVec 1 := Scalar.cmpi .slt v378 c0_i32_312
  let v383 : BitVec 1 := Scalar.xori v381 v382
  let c0_i32_310 : BitVec 32 := 0#32
  let v380 : BitVec 1 := Scalar.cmpi .ne v379 c0_i32_310
  let v384 : BitVec 1 := Scalar.andi v383 v380
  let v385 : BitVec 32 := Scalar.addi v379 v378
  let v386 : BitVec 32 := Scalar.select v384 v385 v379
  let c512_i32_321 : BitVec 32 := 512#32
  let v407 : BitVec 32 := Scalar.muli v386 c512_i32_321
  let v408 : Index := Scalar.indexCast v407
  let c1024_322 : Index := 1024#32
  ![v408.toNat, 1024]
def k0_off12 (d0 : Dev nD) (c0_i32_330 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_329 : BitVec 32 := 1#32
  let v427 : BitVec 32 := Scalar.addi v2 c1_i32_329
  let v428 : BitVec 32 := Scalar.subi v427 c0_i32_330
  let c4_i32_331 : BitVec 32 := 4#32
  let c0_i32_332 : BitVec 32 := 0#32
  let v429 : BitVec 1 := Scalar.cmpi .eq c4_i32_331 c0_i32_332
  let c1_i32_333 : BitVec 32 := 1#32
  let v430 : BitVec 32 := Scalar.select v429 c1_i32_333 c4_i32_331
  let v431 : BitVec 32 := Scalar.remsi v428 v430
  let c0_i32_335 : BitVec 32 := 0#32
  let v433 : BitVec 1 := Scalar.cmpi .slt v431 c0_i32_335
  let c0_i32_336 : BitVec 32 := 0#32
  let v434 : BitVec 1 := Scalar.cmpi .slt v430 c0_i32_336
  let v435 : BitVec 1 := Scalar.xori v433 v434
  let c0_i32_334 : BitVec 32 := 0#32
  let v432 : BitVec 1 := Scalar.cmpi .ne v431 c0_i32_334
  let v436 : BitVec 1 := Scalar.andi v435 v432
  let v437 : BitVec 32 := Scalar.addi v431 v430
  let v438 : BitVec 32 := Scalar.select v436 v437 v431
  let c512_i32_346 : BitVec 32 := 512#32
  let v452 : BitVec 32 := Scalar.muli v438 c512_i32_346
  let c0_i32_352 : BitVec 32 := 0#32
  ![v452.toNat, 0]
def k0_dev9 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_350 : BitVec 32 := 1#32
  let v455 : BitVec 32 := Scalar.muli v24 c1_i32_350
  let v456 : BitVec 32 := Scalar.addi c0_i32_351 v455
  v456.toNat
def k0_off13 (d0 : Dev nD) (c0_i32_338 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_337 : BitVec 32 := 1#32
  let v439 : BitVec 32 := Scalar.subi v2 c1_i32_337
  let v440 : BitVec 32 := Scalar.addi v439 c0_i32_338
  let c4_i32_339 : BitVec 32 := 4#32
  let c0_i32_340 : BitVec 32 := 0#32
  let v441 : BitVec 1 := Scalar.cmpi .eq c4_i32_339 c0_i32_340
  let c1_i32_341 : BitVec 32 := 1#32
  let v442 : BitVec 32 := Scalar.select v441 c1_i32_341 c4_i32_339
  let v443 : BitVec 32 := Scalar.remsi v440 v442
  let c0_i32_343 : BitVec 32 := 0#32
  let v445 : BitVec 1 := Scalar.cmpi .slt v443 c0_i32_343
  let c0_i32_344 : BitVec 32 := 0#32
  let v446 : BitVec 1 := Scalar.cmpi .slt v442 c0_i32_344
  let v447 : BitVec 1 := Scalar.xori v445 v446
  let c0_i32_342 : BitVec 32 := 0#32
  let v444 : BitVec 1 := Scalar.cmpi .ne v443 c0_i32_342
  let v448 : BitVec 1 := Scalar.andi v447 v444
  let v449 : BitVec 32 := Scalar.addi v443 v442
  let v450 : BitVec 32 := Scalar.select v448 v449 v443
  let c512_i32_348 : BitVec 32 := 512#32
  let v454 : BitVec 32 := Scalar.muli v450 c512_i32_348
  let c1024_i32_358 : BitVec 32 := 1024#32
  ![v454.toNat, 1024]
def k0_dev10 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_356 : BitVec 32 := 1#32
  let v463 : BitVec 32 := Scalar.muli v13 c1_i32_356
  let v464 : BitVec 32 := Scalar.addi c0_i32_357 v463
  v464.toNat
def k0_dev11 (d0 : Dev nD) : Nat :=
  let c0_i32_405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_404 : BitVec 32 := 1#32
  let v519 : BitVec 32 := Scalar.muli v24 c1_i32_404
  let v520 : BitVec 32 := Scalar.addi c0_i32_405 v519
  v520.toNat
def k0_dev12 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_410 : BitVec 32 := 1#32
  let v527 : BitVec 32 := Scalar.muli v13 c1_i32_410
  let v528 : BitVec 32 := Scalar.addi c0_i32_411 v527
  v528.toNat
def k0_dev13 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_457 : BitVec 32 := 1#32
  let v583 : BitVec 32 := Scalar.muli v24 c1_i32_457
  let v584 : BitVec 32 := Scalar.addi c0_i32_458 v583
  v584.toNat
def k0_dev14 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_463 : BitVec 32 := 1#32
  let v591 : BitVec 32 := Scalar.muli v13 c1_i32_463
  let v592 : BitVec 32 := Scalar.addi c0_i32_464 v591
  v592.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Pieces.lean ====
/-
# The ring, and the pieces of memory that travel around it

Four devices in a ring. The left 1024 columns of every chunk of 512 rows travel clockwise (direction `false`: to the
device of the next number), the right 1024 columns counter-clockwise (direction `true`). This module names the
neighbours, the pieces of the buffers that are sent and received at each of the six steps of a direction, and the
semaphores, and identifies the program's computed device numbers and offsets with them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe

/-! ## Neighbours -/

set_option backward.proofsInPublic true in
/-- The device `k` places behind `c` in direction `e`: `c - k` clockwise, `c + k` counter-clockwise. -/
def back (e : Bool) (k : Nat) (c : Dev nD) : Dev nD := ⟨(c.val + (bif e then k else 3 * k)) % 4, Nat.mod_lt _ (by decide)⟩

/-- The device that sends to `c` in direction `e`. -/
abbrev prv (e : Bool) (c : Dev nD) : Dev nD := back e 1 c
/-- The device that `c` sends to in direction `e`. -/
abbrev nxt (e : Bool) (c : Dev nD) : Dev nD := back e 3 c

theorem prv_nxt (e : Bool) (c : Dev nD) : prv e (nxt e c) = c := by revert c; cases e <;> decide
theorem nxt_prv (e : Bool) (c : Dev nD) : nxt e (prv e c) = c := by revert c; cases e <;> decide
theorem nxt_not (e : Bool) (c : Dev nD) : nxt (!e) (nxt e c) = c := by revert c; cases e <;> decide
theorem nxt_not' (e : Bool) (c : Dev nD) : nxt e (nxt (!e) c) = c := by revert c; cases e <;> decide
theorem prv_not (e : Bool) (c : Dev nD) : prv (!e) c = nxt e c := by revert c; cases e <;> decide
theorem back_add (e : Bool) (j k : Nat) (c : Dev nD) : back e j (back e k c) = back e (j + k) c := by
  cases e <;> exact Fin.ext (by simp only [back, cond_true, cond_false]; omega)
theorem back_four (e : Bool) (k : Nat) (c : Dev nD) : back e (k + 4) c = back e k c := by
  cases e <;> exact Fin.ext (by simp only [back, cond_true, cond_false]; omega)
theorem back_zero (e : Bool) (c : Dev nD) : back e 0 c = c := by revert c; cases e <;> decide

/-- The ring as a permutation of the devices. -/
def ring (e : Bool) : Dev nD ≃ Dev nD := ⟨nxt e, prv e, prv_nxt e, nxt_prv e⟩

/-! ## Pieces -/

/-- The result's staging buffer, the buffer of a device's own first product, and the two receive buffers. -/
abbrev outM : Memref sig .tc .vmem S2048x2048 .f32 := Memref.whole cc0_stg2_0
abbrev mmM : Memref sig .tc .vmem S512x2048 .f32 := Memref.whole cc0_scratch0
def rsM (e : Bool) : Memref sig .tc .vmem S3x512x1024 .f32 := bif e then Memref.whole cc0_scratch2 else Memref.whole cc0_scratch1

/-- The first column of direction `e`'s half. -/
def col (e : Bool) : Nat := bif e then 1024 else 0

def pOff (j : Dev nD) (e : Bool) : Fin 2 → Nat := ![512 * j.val, col e]
theorem pOff_inb (j : Dev nD) (e : Bool) : ∀ a, pOff j e a + S512x1024.size a ≤ S2048x2048.size a := by
  revert j; cases e <;> decide
abbrev pRect (j : Dev nD) (e : Bool) : Rect S2048x2048 := Rect.unit (s := S2048x2048) (pOff j e) S512x1024.size (pOff_inb j e)
/-- Chunk `j`'s half `e` of the result. -/
def outP (j : Dev nD) (e : Bool) : Memref sig .tc .vmem S512x1024 .f32 := outM.slice (pRect j e) (fun _ => rfl)

def rOff (j : Dev nD) : Fin 2 → Nat := ![512 * j.val, 0]
theorem rOff_inb (j : Dev nD) : ∀ a, rOff j a + S512x2048.size a ≤ S2048x2048.size a := by revert j; decide
theorem rOff_inb' (j : Dev nD) : ∀ a, rOff j a + S512x512.size a ≤ S2048x512.size a := by revert j; decide
abbrev rRect (j : Dev nD) : Rect S2048x2048 := Rect.unit (s := S2048x2048) (rOff j) S512x2048.size (rOff_inb j)
/-- Chunk `j` of the result, both halves. -/
def outRow (j : Dev nD) : Memref sig .tc .vmem S512x2048 .f32 := outM.slice (rRect j) (fun _ => rfl)

def hOff (e : Bool) : Fin 2 → Nat := ![0, col e]
theorem hOff_inb (e : Bool) : ∀ a, hOff e a + S512x1024.size a ≤ S512x2048.size a := by cases e <;> decide
abbrev hRect (e : Bool) : Rect S512x2048 := Rect.unit (s := S512x2048) (hOff e) S512x1024.size (hOff_inb e)
/-- Half `e` of the device's own first product. -/
def mmP (e : Bool) : Memref sig .tc .vmem S512x1024 .f32 := mmM.slice (hRect e) (fun _ => rfl)

def sOff (h : Fin 3) : Fin 3 → Nat := ![h.val, 0, 0]
theorem sOff_inb (h : Fin 3) : ∀ a, sOff h a + S1x512x1024.size a ≤ S3x512x1024.size a := by revert h; decide
abbrev sRect (h : Fin 3) : Rect S3x512x1024 := Rect.unit (s := S3x512x1024) (sOff h) S1x512x1024.size (sOff_inb h)
/-- Slot `h` of direction `e`'s receive buffer, with its leading axis of one and without. -/
def slotU (e : Bool) (h : Fin 3) : Memref sig .tc .vmem S1x512x1024 .f32 := (rsM e).slice (sRect h) (fun _ => rfl)
def slotM (e : Bool) (h : Fin 3) : Memref sig .tc .vmem S512x1024 .f32 := (slotU e h).squeeze S512x1024 squeezes_S1x512x1024_S512x1024

/-- What device `c` sends in step `s` of direction `e`: the device's own product at first, then the chunk `s` places behind. -/
def src (e : Bool) (s : Fin 6) (c : Dev nD) : Memref sig .tc .vmem S512x1024 .f32 :=
  if s.val = 0 then mmP e else outP (back e s.val c) e
/-- Where, on the device after it, that lands: a receive slot in the first three steps, the same chunk afterwards. -/
def dst (e : Bool) (s : Fin 6) (c : Dev nD) : Memref sig .tc .vmem S512x1024 .f32 :=
  if h : s.val < 3 then slotM e ⟨s.val, h⟩ else outP (back e s.val c) e

/-- The credit a landing piece is worth, the same for all. -/
@[irreducible] def N : ℕ := (mmP false).view.dmaCredit
theorem N_pos : 0 < N := by unfold N; exact View.dmaCredit_pos _ (by decide)

/-! ## The program's computed device numbers and offsets -/

theorem dev1_eq (c : Dev nD) : (⟨k0_dev1 c, k0_dev1_lt c⟩ : Dev nD) = nxt true c := by revert c; decide +kernel
theorem dev2_eq (c : Dev nD) : (⟨k0_dev2 c, k0_dev2_lt c⟩ : Dev nD) = nxt false c := by revert c; decide +kernel
theorem dev3_eq (c : Dev nD) : (⟨k0_dev3 c, k0_dev3_lt c⟩ : Dev nD) = nxt false c := by revert c; decide +kernel
theorem dev4_eq (c : Dev nD) : (⟨k0_dev4 c, k0_dev4_lt c⟩ : Dev nD) = nxt true c := by revert c; decide +kernel
theorem dev5_eq (c : Dev nD) : (⟨k0_dev5 c, k0_dev5_lt c⟩ : Dev nD) = nxt false c := by revert c; decide +kernel
theorem dev6_eq (c : Dev nD) : (⟨k0_dev6 c, k0_dev6_lt c⟩ : Dev nD) = nxt true c := by revert c; decide +kernel
theorem dev7_eq (c : Dev nD) : (⟨k0_dev7 c, k0_dev7_lt c⟩ : Dev nD) = nxt false c := by revert c; decide +kernel
theorem dev8_eq (c : Dev nD) : (⟨k0_dev8 c, k0_dev8_lt c⟩ : Dev nD) = nxt true c := by revert c; decide +kernel
theorem dev9_eq (c : Dev nD) : (⟨k0_dev9 c, k0_dev9_lt c⟩ : Dev nD) = nxt false c := by revert c; decide +kernel
theorem dev10_eq (c : Dev nD) : (⟨k0_dev10 c, k0_dev10_lt c⟩ : Dev nD) = nxt true c := by revert c; decide +kernel
theorem dev11_eq (c : Dev nD) : (⟨k0_dev11 c, k0_dev11_lt c⟩ : Dev nD) = nxt false c := by revert c; decide +kernel
theorem dev12_eq (c : Dev nD) : (⟨k0_dev12 c, k0_dev12_lt c⟩ : Dev nD) = nxt true c := by revert c; decide +kernel
theorem dev13_eq (c : Dev nD) : (⟨k0_dev13 c, k0_dev13_lt c⟩ : Dev nD) = nxt false c := by revert c; decide +kernel
theorem dev14_eq (c : Dev nD) : (⟨k0_dev14 c, k0_dev14_lt c⟩ : Dev nD) = nxt true c := by revert c; decide +kernel

theorem off1_eq (c : Dev nD) : k0_off1 c = rOff c := by revert c; decide +kernel
theorem off2_eq (c : Dev nD) : k0_off2 c = rOff (back false 1 c) := by revert c; decide +kernel
theorem off3_eq (c : Dev nD) : k0_off3 c = rOff (back false 1 c) := by revert c; decide +kernel
theorem off4_eq (c : Dev nD) : k0_off4 c 1#32 = rOff (back false 3 c) ∧ k0_off4 c 2#32 = rOff (back false 2 c) := by revert c; decide +kernel
theorem off5_eq (c : Dev nD) : k0_off5 c 1#32 = rOff (back false 3 c) ∧ k0_off5 c 2#32 = rOff (back false 2 c) := by revert c; decide +kernel
theorem off6_eq (c : Dev nD) : k0_off6 c 0#32 = pOff (back false 1 c) false ∧ k0_off6 c 1#32 = pOff (back false 2 c) false
    ∧ k0_off6 c 2#32 = pOff (back false 3 c) false := by revert c; decide +kernel
theorem off7_eq (c : Dev nD) : k0_off7 c 0#32 = pOff (back true 1 c) true ∧ k0_off7 c 1#32 = pOff (back true 2 c) true
    ∧ k0_off7 c 2#32 = pOff (back true 3 c) true := by revert c; decide +kernel
theorem off8_eq (c : Dev nD) : k0_off8 c 0#32 = pOff (back false 1 c) false ∧ k0_off8 c 1#32 = pOff (back false 2 c) false := by
  revert c; decide +kernel
theorem off9_eq (c : Dev nD) : k0_off9 c 0#32 = pOff (back true 1 c) true ∧ k0_off9 c 1#32 = pOff (back true 2 c) true := by
  revert c; decide +kernel
theorem off10_eq (c : Dev nD) : k0_off10 c = pOff (back false 3 c) false := by revert c; decide +kernel
theorem off11_eq (c : Dev nD) : k0_off11 c = pOff (back true 3 c) true := by revert c; decide +kernel
theorem off12_eq (c : Dev nD) : k0_off12 c 0#32 = pOff (back false 3 c) false ∧ k0_off12 c 1#32 = pOff (back false 4 c) false
    ∧ k0_off12 c 2#32 = pOff (back false 5 c) false := by revert c; decide +kernel
theorem off13_eq (c : Dev nD) : k0_off13 c 0#32 = pOff (back true 3 c) true ∧ k0_off13 c 1#32 = pOff (back true 4 c) true
    ∧ k0_off13 c 2#32 = pOff (back true 5 c) true := by revert c; decide +kernel

/-- Any piece of a chunk's half in one of the three buffers is worth that credit. -/
theorem credit_mm (e : Bool) : (mmP e).view.dmaCredit = N := by unfold N; rfl
theorem credit_out (j : Dev nD) (e : Bool) : (outP j e).view.dmaCredit = N := by unfold N; rfl
theorem credit_slot (e : Bool) (h : Fin 3) : (slotM e h).view.dmaCredit = N := by unfold N; cases e <;> rfl
theorem credit_src (e : Bool) (s : Fin 6) (c : Dev nD) : (src e s c).view.dmaCredit = N := by
  unfold src; split
  · exact credit_mm e
  · exact credit_out _ e
theorem credit_dst (e : Bool) (s : Fin 6) (c : Dev nD) : (dst e s c).view.dmaCredit = N := by
  unfold dst; split
  · exact credit_slot e _
  · exact credit_out _ e

/-! ## Semaphores -/

/-- The runtime's barrier semaphore, and the send and receive semaphores of step `s` of direction `e`. -/
abbrev barS : Sem sig := (SemArray.scalar (sig.barrier 0 rfl) : Sems sig S_).sem
/-- The send (`r = false`) or receive (`r = true`) semaphore of step `s` of direction `e`, by its number; -/
def xferS (x : Bool × Bool × Fin 6) : DmaSem sig :=
  (⟨3 + (bif x.1 then 12 else 0) + (bif x.2.1 then 6 else 0) + x.2.2.val, by
    rcases x with ⟨e, r, s⟩; cases e <;> cases r <;> simp <;> omega⟩ : Fin 27)
abbrev sendS (e : Bool) (s : Fin 6) : DmaSem sig := xferS (e, false, s)
abbrev recvS (e : Bool) (s : Fin 6) : DmaSem sig := xferS (e, true, s)

/-- and which one a number is. -/
def xferOf (q : DmaSem sig) : Bool × Bool × Fin 6 :=
  (decide (15 ≤ q.val), decide (6 ≤ (q.val - 3) % 12), ⟨(q.val - 3) % 6, Nat.mod_lt _ (by decide)⟩)

theorem xferOf_xferS (x : Bool × Bool × Fin 6) : xferOf (xferS x) = x := by revert x; decide
theorem three_le_xferS (x : Bool × Bool × Fin 6) : 3 ≤ (xferS x).val := by revert x; decide
theorem xferS_injective : Function.Injective xferS := fun x y h => by rw [← xferOf_xferS x, h, xferOf_xferS]

end Cert.KernelIdeal.Ring

end
-- ==== Proof.Values.lean ====
/-
# What the pieces hold

The contents of every piece of memory at every step, from the two argument blocks of each device: a chunk's product, the
sum that a travelling chunk has gathered, the finished chunk, and the whole result.
-/
module

public import proofs.«01_k».proof.Proof.Pieces

@[expose] public section

noncomputable section

namespace Cert.KernelIdeal.Ring

open Cert.KernelIdeal Cert.KernelIdeal.Gen
open Idealize.ShloMosaic
open Idealize.ShloMosaic.TcCoe

variable {F : FTy → Type} [FloatOps F]
variable (m : (ℓ : Loc nD τ sig) → Buf (Elt F) ℓ)

/-- Device `c`'s two argument blocks, as its staging buffers hold them. -/
def xs (c : Dev nD) : (cc0_stg0_0 : Ref sig .tc).ty.Contents (Elt F) :=
  (win0_0.blk (0 : Fin 1)).view.read (Elt F) (m ((c : Thread nD τ).loc main_arg0))
def ws (c : Dev nD) : (cc0_stg1_0 : Ref sig .tc).ty.Contents (Elt F) :=
  (win0_1.blk (0 : Fin 1)).view.read (Elt F) (m ((c : Thread nD τ).loc main_arg1))

/-- The rows of chunk `j` of a block of 512 columns. -/
def rowsOf (X : (cc0_stg0_0 : Ref sig .tc).ty.Contents (Elt F)) (j : Dev nD) : Vec F S512x512 .f32 :=
  (Memref.whole cc0_stg0_0).view.readAt (Elt F) (Rect.unit (s := S2048x512) (rOff j) S512x512.size (rOff_inb' j)).toLoadRect X

/-- Device `c`'s partial product at chunk `j`'s rows. -/
def prod (c j : Dev nD) : FVec F S512x2048 .f32 := k0_pay2 (rowsOf (xs m c) j) (ws m c)

/-- The half of a chunk that travels in direction `e`. -/
def half {α : Type} (e : Bool) (P : S512x2048.Idx → α) : S512x1024.Idx → α := fun i => P ((hRect e).emb i)

/-- What device `c` holds of the chunk it sends in step `s` of direction `e` while sums are gathered: its own partial
    product added to what the device before it sent. -/
def acc (e : Bool) : Nat → Dev nD → FVec F S512x1024 .f32
  | 0, c => half e (prod m c c)
  | s + 1, c => addf (half e (prod m c (back e (s + 1) c))) (acc e s (prv e c))

/-- The finished half chunk that device `c` ends the gathering with. -/
def fin (e : Bool) (c : Dev nD) : FVec F S512x1024 .f32 := k0_pay14 (acc m e 3 c)

/-- What device `c` sends in step `s` of direction `e`. -/
def sent (e : Bool) (s : Nat) (c : Dev nD) : FVec F S512x1024 .f32 :=
  if s < 3 then acc m e s c else fin m e (back e (s - 3) c)

theorem sent_of_lt (e : Bool) {s : Nat} (h : s < 3) (c : Dev nD) : sent m e s c = acc m e s c := if_pos h
theorem sent_three (e : Bool) (c : Dev nD) : sent m e 3 c = fin m e c := by
  unfold sent; rw [if_neg (by decide), Nat.sub_self, back_zero]
/-- Once finished, a chunk is passed on as it was received. -/
theorem sent_succ (e : Bool) {s : Nat} (h : 3 ≤ s) (c : Dev nD) : sent m e (s + 1) c = sent m e s (prv e c) := by
  unfold sent; rw [if_neg (by omega), if_neg (by omega), back_add, show s + 1 - 3 = s - 3 + 1 by omega]

/-- The column half and the chunk that an index of the result lies in, and its place there. -/
def dirOf (i : S2048x2048.Idx) : Bool := decide (1024 ≤ (i 1).val)
def chunkOf (i : S2048x2048.Idx) : Dev nD := ⟨(i 0).val / 512, by
  have : (i 0).val < 2048 := (i 0).isLt
  show _ < 4; omega⟩
def placeOf (i : S2048x2048.Idx) : S512x1024.Idx :=
  Fin.cons ⟨(i 0).val % 512, Nat.mod_lt _ (by decide)⟩ (Fin.cons ⟨(i 1).val % 1024, Nat.mod_lt _ (by decide)⟩ (fun a => a.elim0))

/-- The result every device ends with: each half chunk as the device that finished it has it. -/
def outAt : S2048x2048.Idx → F .f32 := fun i => fin m (dirOf i) (prv (dirOf i) (chunkOf i)) (placeOf i)

theorem outAt_piece (j : Dev nD) (e : Bool) : (fun i => outAt m ((pRect j e).emb i)) = fin m e (prv e j) := by
  funext i
  have h0 : (((pRect j e).emb i) 0).val = 512 * j.val + (i 0).val := by
    simp only [pRect, Rect.unit, Rect.emb, pOff]; simp
  have h1 : (((pRect j e).emb i) 1).val = col e + (i 1).val := by
    simp only [pRect, Rect.unit, Rect.emb, pOff]; simp
  have b0 : (i 0).val < 512 := (i 0).isLt
  have b1 : (i 1).val < 1024 := (i 1).isLt
  have hd : dirOf ((pRect j e).emb i) = e := by
    unfold dirOf; rw [h1]; cases e
    · exact decide_eq_false (by unfold col; simp; omega)
    · exact decide_eq_true (by unfold col; simp)
  have hc : chunkOf ((pRect j e).emb i) = j := Fin.ext (by show (((pRect j e).emb i) 0).val / 512 = _; rw [h0]; omega)
  have hp : placeOf ((pRect j e).emb i) = i := by
    funext a; refine Fin.cases ?_ (fun a => Fin.cases ?_ (fun a => a.elim0) a) a
    · exact Fin.ext (by show (((pRect j e).emb i) 0).val % 512 = _; rw [h0]; omega)
    · exact Fin.ext (by
        show (((pRect j e).emb i) 1).val % 1024 = (i 1).val; rw [h1]
        cases e
        · show (0 + (i 1).val) % 1024 = _; omega
        · show (1024 + (i 1).val) % 1024 = _; omega)
  unfold outAt; rw [hd, hc, hp]

end Cert.KernelIdeal.Ring

end
-- ==== Proof.Protocol.lean ====
/-
# The protocol: what each semaphore hands over

A device's barrier cell has two duties, named by the direction: duty `e` is paid by the device that `c` sends to in
direction `e`, and hands `c` the places on that device where its first four sends of direction `e` land. The send cell
of a step hands back the piece that was sent. The receive cell of a step hands the piece that has arrived, and in the
two steps 2 and 3 also a place on the sender: where `c`'s send of the other direction lands two steps later.
-/
module

public import proofs.«01_k».proof.Proof.Values

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- A cell of a device: its barrier cell (`none`), or a step's send or receive cell. -/
abbrev Cell : Type := Option (Bool × Bool × Fin 6)
abbrev semOf : Cell → SemLoc sig
  | none => .reg barS
  | some x => .dma (xferS x)
abbrev cell (k : Cell) (c : Dev nD) : GSem nD τ sig := ((c : Thread nD τ), semOf k)
abbrev barCell (c : Dev nD) : GSem nD τ sig := cell none c
abbrev sendCell (e : Bool) (s : Fin 6) (c : Dev nD) : GSem nD τ sig := cell (some (e, false, s)) c
abbrev recvCell (e : Bool) (s : Fin 6) (c : Dev nD) : GSem nD τ sig := cell (some (e, true, s)) c

theorem semOf_injective : Function.Injective semOf := by
  intro a b h
  cases a <;> cases b
  · rfl
  · cases h
  · cases h
  · exact congrArg some (xferS_injective (SemLoc.dma.inj h))
theorem cell_inj {k k' : Cell} {c c' : Dev nD} (h : cell k c = cell k' c') : k = k' ∧ c = c' :=
  ⟨semOf_injective (congrArg Prod.snd h), Fin.ext (congrArg (fun g : GSem nD τ sig => g.1.1.val) h)⟩

/-! ## Payloads -/

/-- Where device `c`'s send of step `s` of direction `e` lands, at any contents. -/
def room (e : Bool) (s : Fin 6) (c : Dev nD) : sProp 𝕄 :=
  iprop(∃ X, owns (nxt e c : Thread nD τ) (dst e s c) fullShare X)
def barPay (e : Bool) (c : Dev nD) : sProp 𝕄 := iprop(room e 0 c ∗ room e 1 c ∗ room e 2 c ∗ room e 3 c)
def sendPay (e : Bool) (s : Fin 6) (c : Dev nD) : sProp 𝕄 := owns (c : Thread nD τ) (src e s c) fullShare (sent m e s.val c)
/-- The place a receive of step 2 or 3 hands back besides. -/
def extra (e : Bool) (s : Fin 6) (c : Dev nD) : sProp 𝕄 := if s.val = 2 ∨ s.val = 3 then room (!e) (s + 2) c else iprop(emp)
def recvPay (e : Bool) (s : Fin 6) (c : Dev nD) : sProp 𝕄 :=
  iprop(owns (c : Thread nD τ) (dst e s (prv e c)) fullShare (sent m e s.val (prv e c)) ∗ extra e s c)

instance room_storable (e : Bool) (s : Fin 6) (c : Dev nD) : BI.Storable (upEmb : UEmb _ 𝕄) (room (F := F) e s c) := by
  unfold room; infer_instance
instance extra_storable (e : Bool) (s : Fin 6) (c : Dev nD) : BI.Storable (upEmb : UEmb _ 𝕄) (extra (F := F) e s c) := by
  unfold extra; split <;> infer_instance

/-- What duty `d` of a cell hands over. -/
def pay (g : GSem nD τ sig) (d : Bool) : sProp 𝕄 :=
  match g.2 with
  | .reg _ => barPay d g.1.1
  | .dma q => if (xferOf q).2.1 = true then recvPay m (xferOf q).1 (xferOf q).2.2 g.1.1 else sendPay m (xferOf q).1 (xferOf q).2.2 g.1.1

/-- The duties of a cell: a barrier cell's two, another's one. -/
def dutiesOf (g : GSem nD τ sig) : Finset Bool :=
  match g.2 with
  | .reg _ => Finset.univ
  | .dma _ => {false}
def amountOf (g : GSem nD τ sig) : ℕ :=
  match g.2 with
  | .reg _ => 1
  | .dma _ => N

/-- Every cell runs one round. -/
def rd : Rounds.Schedule (GSem nD τ sig) Bool 𝕄 where
  duties g r := if r = 0 then dutiesOf g else ∅
  unitless _ := False
  amount g _ _ := amountOf g
  payload g _ d := pay m g d
  amount_pos g _ _ _ := by
    unfold amountOf; split
    · exact Nat.one_pos
    · exact N_pos

instance rd_payload_storable (g : GSem nD τ sig) (r : ℕ) (d : Bool) :
    BI.Storable (upEmb : UEmb _ 𝕄) ((rd (F := F) m).payload g r d) := by
  show BI.Storable upEmb (pay m g d)
  unfold pay barPay recvPay sendPay
  split
  · infer_instance
  · split <;> infer_instance

theorem duties_bar (c : Dev nD) : (rd (F := F) m).duties (barCell c) 0 = Finset.univ := rfl
theorem duties_xfer (x : Bool × Bool × Fin 6) (c : Dev nD) : (rd (F := F) m).duties (cell (some x) c) 0 = {false} := rfl
theorem duties_later (g : GSem nD τ sig) : ∀ r, 1 ≤ r → (rd (F := F) m).duties g r = ∅ :=
  fun r hr => if_neg (by omega)
theorem amount_bar (c : Dev nD) (d : Bool) : (rd (F := F) m).amount (barCell c) 0 d = 1 := rfl
theorem amount_xfer (x : Bool × Bool × Fin 6) (c : Dev nD) (d : Bool) : (rd (F := F) m).amount (cell (some x) c) 0 d = N := rfl

theorem expect_bar (c : Dev nD) : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_of_single {g : GSem nD τ sig} {a : ℕ} (h : (rd (F := F) m).duties g 0 = {false}) (h' : (rd (F := F) m).amount g 0 false = a) :
    (rd (F := F) m).expect g 0 = a := by
  unfold Schedule.expect Schedule.amountOf; rw [h, Finset.sum_singleton, h']
theorem expect_xfer (x : Bool × Bool × Fin 6) (c : Dev nD) : (rd (F := F) m).expect (cell (some x) c) 0 = N :=
  expect_of_single m (duties_xfer m x c) (amount_xfer m x c false)

theorem payload_bar (c : Dev nD) (d : Bool) : (rd (F := F) m).payload (barCell c) 0 d = barPay d c := rfl
theorem pay_dma (t : Thread nD τ) (q : DmaSem sig) (d : Bool) {e r : Bool} {s : Fin 6} (h : xferOf q = (e, r, s)) :
    (rd (F := F) m).payload (t, .dma q) 0 d = if r = true then recvPay m e s t.1 else sendPay m e s t.1 := by
  show (if (xferOf q).2.1 = true then recvPay m (xferOf q).1 (xferOf q).2.2 t.1 else sendPay m (xferOf q).1 (xferOf q).2.2 t.1) = _
  rw [h]
theorem payload_send (e : Bool) (s : Fin 6) (c : Dev nD) (d : Bool) : (rd (F := F) m).payload (sendCell e s c) 0 d = sendPay m e s c :=
  pay_dma m (c : Thread nD τ) (xferS (e, false, s)) d (xferOf_xferS _)
theorem payload_recv (e : Bool) (s : Fin 6) (c : Dev nD) (d : Bool) : (rd (F := F) m).payload (recvCell e s c) 0 d = recvPay m e s c :=
  pay_dma m (c : Thread nD τ) (xferS (e, true, s)) d (xferOf_xferS _)

/-- A whole round of each kind of cell. -/
theorem rest_bar (c : Dev nD) : bigSep ((rd (F := F) m).duties (barCell c) 0 \ ∅) (fun d => (rd (F := F) m).payload (barCell c) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
theorem rest_send (e : Bool) (s : Fin 6) (c : Dev nD) :
    bigSep ((rd (F := F) m).duties (sendCell e s c) 0 \ ∅) (fun d => (rd (F := F) m).payload (sendCell e s c) 0 d) = sendPay m e s c := by
  rw [Finset.sdiff_empty, duties_xfer, bigSep_singleton, payload_send]
theorem rest_recv (e : Bool) (s : Fin 6) (c : Dev nD) :
    bigSep ((rd (F := F) m).duties (recvCell e s c) 0 \ ∅) (fun d => (rd (F := F) m).payload (recvCell e s c) 0 d) = recvPay m e s c := by
  rw [Finset.sdiff_empty, duties_xfer, bigSep_singleton, payload_recv]

/-! ## What a device owes, and the levels -/

/-- What device `c` owes before its last `k` steps of sends. -/
def rest : Nat → Dev nD → CellTallies nD τ sig Unit
  | 0, _ => 0
  | k + 1, c => (rest k c + tallyAt (recvCell true (Fin.ofNat 6 (5 - k)) (nxt true c)) () N)
      + tallyAt (recvCell false (Fin.ofNat 6 (5 - k)) (nxt false c)) () N
/-- What it owes at first: a unit on either neighbour's barrier besides. -/
def owed₁ (c : Dev nD) : CellTallies nD τ sig Unit := rest 6 c + tallyAt (barCell (nxt false c)) () 1
def owed₀ (c : Dev nD) : CellTallies nD τ sig Unit := owed₁ c + tallyAt (barCell (nxt true c)) () 1

def L (g : GSem nD τ sig) : Finset Unit := if g.1.2 = .tc then {()} else ∅
/-- Barrier cells at 1, step `s`'s receive cells at `s + 2`, everything else at 0. -/
def lvOf : SemLoc sig → ℕ
  | .reg _ => 1
  | .dma q => if 3 ≤ q.val ∧ (xferOf q).2.1 = true then (xferOf q).2.2.val + 2 else 0
def lv (g : GSem nD τ sig) (_ : Unit) : ℕ := lvOf g.2

theorem L_of_ne (g : GSem nD τ sig) (h : g.1.2 ≠ .tc) : L g = ∅ := if_neg h
theorem lv_bar (c : Dev nD) : lv (barCell c) () = 1 := rfl
theorem lvOf_dma (q : DmaSem sig) {e r : Bool} {s : Fin 6} (h3 : 3 ≤ q.val) (h : xferOf q = (e, r, s)) :
    lvOf (.dma q) = if r = true then s.val + 2 else 0 := by
  show (if 3 ≤ q.val ∧ (xferOf q).2.1 = true then (xferOf q).2.2.val + 2 else 0) = _
  rw [h]; cases r
  · rw [if_neg (by simp), if_neg (by simp)]
  · rw [if_pos ⟨h3, rfl⟩, if_pos rfl]
theorem lv_send (e : Bool) (s : Fin 6) (c : Dev nD) : lv (sendCell e s c) () = 0 :=
  lvOf_dma (xferS (e, false, s)) (three_le_xferS _) (xferOf_xferS _)
theorem lv_recv (e : Bool) (s : Fin 6) (c : Dev nD) : lv (recvCell e s c) () = s.val + 2 :=
  lvOf_dma (xferS (e, true, s)) (three_le_xferS _) (xferOf_xferS _)

/-- Everything owed lies on tensor cores' cells of a level above `n`. -/
def Above (n : ℕ) (O : CellTallies nD τ sig Unit) : Prop := ∀ (g : GSem nD τ sig) (u : Unit), 0 < O g u → g.1.2 = .tc ∧ n < lv g ()

theorem above_zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (k : Cell) (c : Dev nD) (a : ℕ) (h : n < lv (cell k c) ()) : Above n (tallyAt (cell k c) () a) := fun g u hg => by
  rw [tallyAt_apply] at hg
  by_cases hc : g = cell k c ∧ u = ()
  · rw [hc.1]; exact ⟨rfl, h⟩
  · rw [if_neg hc] at hg; exact absurd hg (Nat.lt_irrefl 0)
theorem above_rest (c : Dev nD) : ∀ k n : ℕ, k ≤ 6 → n + k ≤ 7 → Above n (rest k c)
  | 0, n, _, _ => above_zero n
  | k + 1, n, hk, hn => by
    have h5 : (Fin.ofNat 6 (5 - k)).val = 5 - k := Nat.mod_eq_of_lt (by omega)
    exact ((above_rest c k n (by omega) (by omega)).add (above_tally _ _ _ (by rw [lv_recv, h5]; omega))).add
      (above_tally _ _ _ (by rw [lv_recv, h5]; omega))
theorem above_owed₀ (c : Dev nD) : Above 0 (owed₀ c) :=
  ((above_rest c 6 0 (by decide) (by decide)).add (above_tally none _ _ (by rw [lv_bar]; decide))).add (above_tally none _ _ (by rw [lv_bar]; decide))

/-- A device may wait on a semaphore below everything it owes. -/
theorem mayWait (c : Dev nD) (sm : SemLoc sig) (n : ℕ) (h : lvOf sm ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact h)
    (fun g u hg => (hO g u hg).2)

/-! ## What a device holds of the protocol -/

/-- What device `c` needs to send in step `s` of direction `e`: the two cells, and the right to pay them. -/
def sendPk (e : Bool) (s : Fin 6) (c : Dev nD) : sProp 𝕄 :=
  iprop((∃ κ, cellInv ER (rd (F := F) m) κ (sendCell e s c)) ∗ (∃ κ, cellInv ER (rd (F := F) m) κ (recvCell e s (nxt e c)))
    ∗ dutyTok ER (sendCell e s c) 0 false ∗ reached ER (sendCell e s c) 0
    ∗ dutyTok ER (recvCell e s (nxt e c)) 0 false ∗ reached ER (recvCell e s (nxt e c)) 0)
/-- What it needs, besides the credit, to wait on one of its own cells. -/
def waitPk (k : Cell) (c : Dev nD) : sProp 𝕄 :=
  iprop((∃ κ, cellInv ER (rd (F := F) m) κ (cell k c)) ∗ atPos ER (cell k c) 0 ∅ 0)
/-- The same with the credit. -/
def wait (k : Cell) (n : ℕ) (c : Dev nD) : sProp 𝕄 := iprop(waitPk m k c ∗ cred (tallyAt (cell k c) () n))
/-- What it needs to signal a neighbour's barrier, paying duty `d` there. -/
def signalPk (d : Bool) (c' : Dev nD) : sProp 𝕄 :=
  iprop((∃ κ, cellInv ER (rd (F := F) m) κ (barCell c')) ∗ dutyTok ER (barCell c') 0 d ∗ reached ER (barCell c') 0)
/-- One step of one direction. -/
def stepPk (e : Bool) (s : Fin 6) (c : Dev nD) : sProp 𝕄 :=
  iprop(sendPk m e s c ∗ waitPk m (some (e, false, s)) c ∗ wait m (some (e, true, s)) N c)
/-- The barrier's part. -/
def barPk (c : Dev nD) : sProp 𝕄 :=
  iprop(signalPk m false (nxt true c) ∗ signalPk m true (nxt false c) ∗ wait m none 2 c)
/-- What device `c` owes, whatever it has waited on so far. -/
def owesE (c : Dev nD) (O : CellTallies nD τ sig Unit) : sProp 𝕄 := iprop(∃ W, owes (c : Thread nD τ) O W)

/-- A cell's counter at zero. -/
abbrev zero (k : Cell) (c : Dev nD) : sProp 𝕄 := semVal (cell k c) 0

end Cert.KernelIdeal.Ring

end
-- ==== Proof.Steps.lean ====
/-
# One step of the kernel at a time

What a load, a store, a send, or a wait does to what a device owns, stated once for any device, chunk, direction and step.
-/
module

public import proofs.«01_k».proof.Proof.Protocol

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Loads and stores -/

section Mem
variable (c : Dev nD) {sh : Shape} {α : Type} {Q : α → sProp (MT nD τ sig Unit (Elt F) ℕ UU ℕ)}

/-- Loading an owned rectangle of a buffer gives its contents. -/
theorem wp_load_slice (M : Memref sig .tc .vmem sh .f32) (r : Rect sh) (hr : ∀ a, r.stride a = 1) {hl : M.view.LoadsAt r.toLoadRect}
    {k : (r.shape.Idx → Elt F .f32) → Prog (TpuEff nD τ sig (Elt F) Λ₀ .tc) α} (X : r.shape.Idx → Elt F .f32) :
    (owns (c : Thread nD τ) (M.slice r hr) fullShare X : sProp 𝕄)
      ⊢ iprop((owns (c : Thread nD τ) (M.slice r hr) fullShare X -∗ wp frame (wpE (defs₀ (F := F)) 𝒱₀ (c : Thread nD τ) none) Set.univ (k X) Q)
        -∗ wp frame (wpE (defs₀ (F := F)) 𝒱₀ (c : Thread nD τ) none) Set.univ (.op (.load M r.toLoadRect hl) k) Q) := by
  unfold owns
  iintro ⟨%f, %hf, H⟩ Hk
  subst hf
  iapply (wp_load_rect 𝒱₀ (c : Thread nD τ) none Set.univ (m := M) (r := r) (S := (M.slice r hr).view.set) (Finset.Subset.refl _)) $$ H
  iintro H
  iapply Hk
  iexists f
  isplitr; · ipureintro; rfl
  iexact H

/-- Storing to an owned rectangle of a buffer, whatever it holds, leaves the stored contents. -/
theorem wp_store_slice (M : Memref sig .tc .vmem sh .f32) (r : Rect sh) (hr : ∀ a, r.stride a = 1) {w : r.shape.Idx → Elt F .f32}
    {hx : (M.access r).Stores Finset.univ} {hm : (Finset.univ : Finset r.shape.Idx) = Finset.univ ∨ ∀ a, r.stride a = 1}
    {k : PUnit → Prog (TpuEff nD τ sig (Elt F) Λ₀ .tc) α} (X : r.shape.Idx → Elt F .f32) :
    (owns (c : Thread nD τ) (M.slice r hr) fullShare X : sProp 𝕄)
      ⊢ iprop((owns (c : Thread nD τ) (M.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (r := r) (Mk := Finset.univ) (S := (M.slice r hr).view.set) (Finset.Subset.refl _)) $$ H
  iintro H
  iapply Hk
  iexists ((M.access r).write (Elt F) f w Finset.univ)
  isplitr; · ipureintro; exact View.read_write_univ _ _
  iexact H

variable {k : (S512x1024.Idx → Elt F .f32) → Prog (TpuEff nD τ sig (Elt F) Λ₀ .tc) α}

theorem wp_load_out (j : Dev nD) (e : Bool) {a : Fin 2 → Nat} {ha : ∀ i, a i + S512x1024.size i ≤ S2048x2048.size i} (h : a = pOff j e)
    {hl : outM.view.LoadsAt (Rect.unit (s := S2048x2048) a S512x1024.size ha).toLoadRect} (X : S512x1024.Idx → Elt F .f32) :
    (owns (c : Thread nD τ) (outP j e) fullShare X : sProp 𝕄)
      ⊢ iprop((owns (c : Thread nD τ) (outP j e) fullShare X -∗ wp frame (wpE (defs₀ (F := F)) 𝒱₀ (c : Thread nD τ) none) Set.univ (k X) Q)
        -∗ wp frame (wpE (defs₀ (F := F)) 𝒱₀ (c : Thread nD τ) none) Set.univ
          (.op (.load outM (Rect.unit (s := S2048x2048) a S512x1024.size ha).toLoadRect hl) k) Q) := by
  subst h; exact wp_load_slice c outM (pRect j e) (fun _ => rfl) X

theorem wp_store_out (j : Dev nD) (e : Bool) {a : Fin 2 → Nat} {ha : ∀ i, a i + S512x1024.size i ≤ S2048x2048.size i} (h : a = pOff j e)
    {w : S512x1024.Idx → Elt F .f32}
    {hx : (outM.access (Rect.unit (s := S2048x2048) a S512x1024.size ha)).Stores Finset.univ}
    {hm : (Finset.univ : Finset (Rect.unit (s := S2048x2048) a S512x1024.size ha).shape.Idx) = Finset.univ ∨ ∀ i, (Rect.unit (s := S2048x2048) a S512x1024.size ha).stride i = 1}
    {k : PUnit → Prog (TpuEff nD τ sig (Elt F) Λ₀ .tc) α} (X : S512x1024.Idx → Elt F .f32) :
    (owns (c : Thread nD τ) (outP j e) fullShare X : sProp 𝕄)
      ⊢ iprop((owns (c : Thread nD τ) (outP j e) fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.store outM (Rect.unit (s := S2048x2048) a S512x1024.size ha) w Finset.univ hx hm) k) Q) := by
  subst h; exact wp_store_slice c outM (pRect j e) (fun _ => rfl) X

/-- Loading a chunk's rows; what is loaded may be anything. -/
theorem wp_load_row (j : Dev nD) {a : Fin 2 → Nat} {ha : ∀ i, a i + S512x2048.size i ≤ S2048x2048.size i} (h : a = rOff j)
    {hl : outM.view.LoadsAt (Rect.unit (s := S2048x2048) a S512x2048.size ha).toLoadRect}
    {k : (S512x2048.Idx → Elt F .f32) → Prog (TpuEff nD τ sig (Elt F) Λ₀ .tc) α} (X : S512x2048.Idx → Elt F .f32) :
    (owns (c : Thread nD τ) (outRow j) fullShare X : sProp 𝕄)
      ⊢ iprop((owns (c : Thread nD τ) (outRow j) fullShare X -∗ wp frame (wpE (defs₀ (F := F)) 𝒱₀ (c : Thread nD τ) none) Set.univ (k X) Q)
        -∗ wp frame (wpE (defs₀ (F := F)) 𝒱₀ (c : Thread nD τ) none) Set.univ
          (.op (.load outM (Rect.unit (s := S2048x2048) a S512x2048.size ha).toLoadRect hl) k) Q) := by
  subst h; exact wp_load_slice c outM (rRect j) (fun _ => rfl) X

theorem wp_store_row (j : Dev nD) {a : Fin 2 → Nat} {ha : ∀ i, a i + S512x2048.size i ≤ S2048x2048.size i} (h : a = rOff j)
    {w : S512x2048.Idx → Elt F .f32}
    {hx : (outM.access (Rect.unit (s := S2048x2048) a S512x2048.size ha)).Stores Finset.univ}
    {hm : (Finset.univ : Finset (Rect.unit (s := S2048x2048) a S512x2048.size ha).shape.Idx) = Finset.univ ∨ ∀ i, (Rect.unit (s := S2048x2048) a S512x2048.size ha).stride i = 1}
    {k : PUnit → Prog (TpuEff nD τ sig (Elt F) Λ₀ .tc) α} (X : S512x2048.Idx → Elt F .f32) :
    (owns (c : Thread nD τ) (outRow j) fullShare X : sProp 𝕄)
      ⊢ iprop((owns (c : Thread nD τ) (outRow j) fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.store outM (Rect.unit (s := S2048x2048) a S512x2048.size ha) w Finset.univ hx hm) k) Q) := by
  subst h; exact wp_store_slice c outM (rRect j) (fun _ => rfl) X

/-- Loading an owned rectangle that is also read as an array of another shape: what is loaded, in that shape, is its contents. -/
theorem wp_load_squeeze (M : Memref sig .tc .vmem sh .f32) (r : Rect sh) (hr : ∀ a, r.stride a = 1) {s' : Shape} (hsq : r.shape.Squeezes s')
    {hl : M.view.LoadsAt r.toLoadRect}
    {k : (r.shape.Idx → Elt F .f32) → Prog (TpuEff nD τ sig (Elt F) Λ₀ .tc) α} (X : s'.Idx → Elt F .f32) :
    (owns (c : Thread nD τ) ((M.slice r hr).squeeze s' hsq) fullShare X : sProp 𝕄)
      ⊢ iprop((∀ Y : r.shape.Idx → Elt F .f32, ⌜shapeCast s' Y hsq.numel_eq = X⌝ -∗
          owns (c : Thread nD τ) ((M.slice r hr).squeeze s' hsq) fullShare X -∗
          wp frame (wpE (defs₀ (F := F)) 𝒱₀ (c : Thread nD τ) none) Set.univ (k Y) Q)
        -∗ wp frame (wpE (defs₀ (F := F)) 𝒱₀ (c : Thread nD τ) none) Set.univ (.op (.load M r.toLoadRect hl) k) Q) := by
  have hset : ((M.slice r hr).squeeze s' hsq).view.set = (M.access r).set := View.set_reshape _ _
  unfold owns
  iintro ⟨%f, %hf, H⟩ Hk
  iapply (wp_load_rect 𝒱₀ (c : Thread nD τ) none Set.univ (m := M) (r := r) (S := ((M.slice r hr).squeeze s' hsq).view.set)
    (Finset.Subset.trans (Finset.Subset.refl _) (le_of_eq hset.symm))) $$ H
  iintro H
  ispecialize Hk $$ %((M.access r).read (Elt F) f)
  iapply Hk
  · ipureintro; exact hf
  iexists f
  isplitr; · ipureintro; exact hf
  iexact H

/-- Loading a receive slot gives its contents with a leading axis of one. -/
theorem wp_load_slot (e : Bool) (h : Fin 3) {M : Memref sig .tc .vmem S3x512x1024 .f32} (hM : M = rsM e)
    {a : Fin 3 → Nat} {ha : ∀ i, a i + S1x512x1024.size i ≤ S3x512x1024.size i} (haeq : a = sOff h)
    {hl : M.view.LoadsAt (Rect.unit (s := S3x512x1024) a S1x512x1024.size ha).toLoadRect}
    {k : (S1x512x1024.Idx → Elt F .f32) → Prog (TpuEff nD τ sig (Elt F) Λ₀ .tc) α} (X : S512x1024.Idx → Elt F .f32) :
    (owns (c : Thread nD τ) (slotM e h) fullShare X : sProp 𝕄)
      ⊢ iprop((∀ Y : S1x512x1024.Idx → Elt F .f32, ⌜shapeCast S512x1024 Y shapeCasts_S1x512x1024_S512x1024 = X⌝ -∗
          owns (c : Thread nD τ) (slotM e h) fullShare X -∗ wp frame (wpE (defs₀ (F := F)) 𝒱₀ (c : Thread nD τ) none) Set.univ (k Y) Q)
        -∗ wp frame (wpE (defs₀ (F := F)) 𝒱₀ (c : Thread nD τ) none) Set.univ
          (.op (.load M (Rect.unit (s := S3x512x1024) a S1x512x1024.size ha).toLoadRect hl) k) Q) := by
  subst hM; subst haeq
  exact wp_load_squeeze c (rsM e) (sRect h) (fun _ => rfl) squeezes_S1x512x1024_S512x1024 X

/-- Loading a chunk's rows of the left operand. -/
theorem wp_load_x (j : Dev nD) {a : Fin 2 → Nat} {ha : ∀ i, a i + S512x512.size i ≤ S2048x512.size i} (h : a = rOff j)
    {hl : (Memref.whole cc0_stg0_0).view.LoadsAt (Rect.unit (s := S2048x512) a S512x512.size ha).toLoadRect}
    {k : (S512x512.Idx → Elt F .f32) → Prog (TpuEff nD τ sig (Elt F) Λ₀ .tc) α} (X : (cc0_stg0_0 : Ref sig .tc).ty.Contents (Elt F)) :
    ((c : Thread nD τ).loc cc0_stg0_0 ↦{fullShare} X : sProp 𝕄)
      ⊢ iprop((((c : Thread nD τ).loc cc0_stg0_0 ↦{fullShare} X) -∗
          wp frame (wpE (defs₀ (F := F)) 𝒱₀ (c : Thread nD τ) none) Set.univ (k (rowsOf X j)) Q)
        -∗ wp frame (wpE (defs₀ (F := F)) 𝒱₀ (c : Thread nD τ) none) Set.univ
          (.op (.load (Memref.whole cc0_stg0_0) (Rect.unit (s := S2048x512) a S512x512.size ha).toLoadRect hl) k) Q) := by
  subst h
  exact wp_load 𝒱₀ (c : Thread nD τ) none Set.univ (m := Memref.whole cc0_stg0_0) (Finset.subset_univ _)

/-- Loading the whole of the right operand. -/
theorem wp_load_w {a : Fin 2 → Nat} (h0 : a = fun _ => 0) {ha : ∀ i, a i + S512x2048.size i ≤ S512x2048.size i}
    {hl : (Memref.whole cc0_stg1_0).view.LoadsAt (Rect.unit (s := S512x2048) a S512x2048.size ha).toLoadRect}
    {k : (S512x2048.Idx → Elt F .f32) → Prog (TpuEff nD τ sig (Elt F) Λ₀ .tc) α} (X : (cc0_stg1_0 : Ref sig .tc).ty.Contents (Elt F)) :
    ((c : Thread nD τ).loc cc0_stg1_0 ↦{fullShare} X : sProp 𝕄)
      ⊢ iprop((((c : Thread nD τ).loc cc0_stg1_0 ↦{fullShare} X) -∗
          wp frame (wpE (defs₀ (F := F)) 𝒱₀ (c : Thread nD τ) none) Set.univ (k X) Q)
        -∗ wp frame (wpE (defs₀ (F := F)) 𝒱₀ (c : Thread nD τ) none) Set.univ
          (.op (.load (Memref.whole cc0_stg1_0) (Rect.unit (s := S512x2048) a S512x2048.size ha).toLoadRect hl) k) Q) := by
  have hr : (Memref.whole cc0_stg1_0).view.readAt (Elt F) (Rect.unit (s := S512x2048) a S512x2048.size ha).toLoadRect X = X :=
    Memref.readAt_unit_zero (Elt F) cc0_stg1_0 h0 ha X
  iintro H Hk
  iapply (wp_load 𝒱₀ (c : Thread nD τ) none Set.univ (m := Memref.whole cc0_stg1_0) (S := Finset.univ) (Finset.subset_univ _)) $$ H
  rw [hr]
  iexact Hk

/-- Loading the whole of the first product's buffer. -/
theorem wp_load_mm {a : Fin 2 → Nat} (h0 : a = fun _ => 0) {ha : ∀ i, a i + S512x2048.size i ≤ S512x2048.size i}
    {hl : (Memref.whole cc0_scratch0).view.LoadsAt (Rect.unit (s := S512x2048) a S512x2048.size ha).toLoadRect}
    {k : (S512x2048.Idx → Elt F .f32) → Prog (TpuEff nD τ sig (Elt F) Λ₀ .tc) α} (X : (cc0_scratch0 : Ref sig .tc).ty.Contents (Elt F)) :
    ((c : Thread nD τ).loc cc0_scratch0 ↦{fullShare} X : sProp 𝕄)
      ⊢ iprop((((c : Thread nD τ).loc cc0_scratch0 ↦{fullShare} X) -∗
          wp frame (wpE (defs₀ (F := F)) 𝒱₀ (c : Thread nD τ) none) Set.univ (k X) Q)
        -∗ wp frame (wpE (defs₀ (F := F)) 𝒱₀ (c : Thread nD τ) none) Set.univ
          (.op (.load (Memref.whole cc0_scratch0) (Rect.unit (s := S512x2048) a S512x2048.size ha).toLoadRect hl) k) Q) := by
  have hr : (Memref.whole cc0_scratch0).view.readAt (Elt F) (Rect.unit (s := S512x2048) a S512x2048.size ha).toLoadRect X = X :=
    Memref.readAt_unit_zero (Elt F) cc0_scratch0 h0 ha X
  iintro H Hk
  iapply (wp_load 𝒱₀ (c : Thread nD τ) none Set.univ (m := Memref.whole cc0_scratch0) (S := Finset.univ) (Finset.subset_univ _)) $$ H
  rw [hr]
  iexact Hk

/-- Storing the whole of the first product's buffer. -/
theorem wp_store_mm {a : Fin 2 → Nat} (h0 : a = fun _ => 0) {ha : ∀ i, a i + S512x2048.size i ≤ S512x2048.size i}
    {w : S512x2048.Idx → Elt F .f32}
    {hx : ((Memref.whole cc0_scratch0).access (Rect.unit (s := S512x2048) a S512x2048.size ha)).Stores Finset.univ}
    {hm : (Finset.univ : Finset (Rect.unit (s := S512x2048) a S512x2048.size ha).shape.Idx) = Finset.univ ∨ ∀ i, (Rect.unit (s := S512x2048) a S512x2048.size ha).stride i = 1}
    {k : PUnit → Prog (TpuEff nD τ sig (Elt F) Λ₀ .tc) α} (X : (cc0_scratch0 : Ref sig .tc).ty.Contents (Elt F)) :
    ((c : Thread nD τ).loc cc0_scratch0 ↦{fullShare} X : sProp 𝕄)
      ⊢ iprop((owns (c : Thread nD τ) mmM fullShare w -∗
          wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_scratch0) (Rect.unit (s := S512x2048) a S512x2048.size ha) w Finset.univ hx hm) k) Q) := by
  have hw : ((Memref.whole cc0_scratch0).access (Rect.unit (s := S512x2048) a S512x2048.size ha)).write (Elt F) X w Finset.univ = w :=
    Memref.write_access_unit_zero_univ (Elt F) cc0_scratch0 h0 ha X w
  rw [owns_whole]
  iintro H Hk
  iapply (wp_store 𝒱₀ (c : Thread nD τ) none Set.univ (m := Memref.whole cc0_scratch0) (r := Rect.unit (s := S512x2048) a S512x2048.size ha)
    (Mk := Finset.univ) (S := Finset.univ) (Finset.subset_univ _)) $$ H
  rw [hw]
  iexact Hk

end Mem

/-! ## Which pieces the program's slices are -/

theorem out_slice (j : Dev nD) (e : Bool) {a : Fin 2 → Nat} {ha : ∀ i, a i + S512x1024.size i ≤ S2048x2048.size i} (h : a = pOff j e) :
    outM.slice (Rect.unit (s := S2048x2048) a S512x1024.size ha) (fun _ => rfl) = outP j e := by subst h; rfl
theorem src_out (e : Bool) (s : Fin 6) (c : Dev nD) (h : s.val ≠ 0) : src e s c = outP (back e s.val c) e := if_neg h
theorem dst_slot (e : Bool) (s : Fin 6) (c : Dev nD) (h : s.val < 3) : dst e s c = slotM e ⟨s.val, h⟩ := dif_pos h
theorem dst_out (e : Bool) (s : Fin 6) (c : Dev nD) (h : ¬ s.val < 3) : dst e s c = outP (back e s.val c) e := dif_neg h

/-! ## Sends and waits -/

section Comm
variable (c : Dev nD) {α : Type} {Q : α → sProp (MT nD τ sig Unit (Elt F) ℕ UU ℕ)}

theorem owns_of_read (t : Thread nD τ) {sh : Shape} (M : Memref sig t.2.kind .vmem sh .f32) (q : PosShare TreeShare) (f : Buf (Elt F) (M.view.loc t))
    (X : sh.Idx → Elt F .f32) (h : M.view.read (Elt F) f = X) : (M.view.loc t ↦[M.view.set]{q} f : sProp 𝕄) ⊢ owns t M q X := by
  unfold owns
  iintro H
  iexists f
  isplitr; · ipureintro; exact h
  iexact H

theorem sendPay_intro (e : Bool) (s : Fin 6) (f : Buf (Elt F) ((src e s c).view.loc (c : Thread nD τ)))
    (h : (src e s c).view.read (Elt F) f = sent m e s.val c) :
    ((src e s c).view.loc (c : Thread nD τ) ↦[(src e s c).view.set]{fullShare} f : sProp 𝕄) ⊢ sendPay m e s c := by
  unfold sendPay; exact owns_of_read _ _ _ _ _ h

/-- What the sender owns of the place the transfer lands, once rewritten, and what goes with it are what the receiver waits for. -/
theorem recvPay_intro (e : Bool) (s : Fin 6) (X Y : S512x1024.Idx → Elt F .f32) (hY : Y = sent m e s.val c) :
    (iprop(owns (nxt e c : Thread nD τ) (dst e s c) fullShare Y ∗ extra e s (nxt e c)) : sProp 𝕄) ⊢ recvPay m e s (nxt e c) := by
  subst hY; unfold recvPay; rw [prv_nxt]

/-- Sending step `s` of direction `e`: the contents leave as the schedule says, and what is owed to the receiver is paid. -/
theorem wp_send_step (e : Bool) (s : Fin 6) {n : Dev nD} {ms md : Memref sig .tc .vmem S512x1024 .f32} {qS qR : DmaSem sig}
    (hn : n = nxt e c) (hms : ms = src e s c) (hmd : md = dst e s c) (hqS : qS = sendS e s) (hqR : qR = recvS e s)
    {hsc : md.view.ref.isScScratch = false} {hsrc : ms.view.WordExact} {hdst : md.view.WordExact}
    {hsem : DmaTarget.Typed .vmem (.dma qR) (.remote (Dev.tc n : Thread nD τ) md (.dma qS) hsc)}
    {k : PUnit → Prog (TpuEff nD τ sig (Elt F) Λ₀ .tc) α} (O : CellTallies nD τ sig Unit) :
    (iprop(sendPk m e s c ∗ owns (c : Thread nD τ) (src e s c) fullShare (sent m e s.val c) ∗ room e s c ∗ extra e s (nxt e c)
        ∗ owesE c (O + tallyAt (recvCell e s (nxt e c)) () N)) : sProp 𝕄)
      ⊢ iprop(((cred (tallyAt (sendCell e s c) () N) ∗ owesE c O) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ms (.remote (Dev.tc n) md (.dma qS) hsc) (.dma qR) hsrc hdst hsem) k) Q) := by
  subst hn hms hmd hqS hqR
  unfold sendPk room owesE
  iintro ⟨⟨⟨%κ₁, Hc₁⟩, ⟨%κ₂, Hc₂⟩, Ht₁, Hr₁, Ht₂, Hr₂⟩, Hsrc, ⟨%X, Hdst⟩, Hex, ⟨%W, HO⟩⟩ Hk
  unfold owns
  icases Hsrc with ⟨%fs, %hfs, Hs⟩
  icases Hdst with ⟨%fd, %hfd, Hd⟩
  iapply (Rounds.wp_send_pointsTo_with 𝒱₀ ER (rd (F := F) m) (c : Thread nD τ) none (c' := (nxt e c : Thread nD τ))
    (src := src e s c) (dst := dst e s c) (sS := .dma (sendS e s)) (sem := .dma (recvS e s)) (q := fullShare) (fs := fs) (fd := fd)
    (F := extra e s (nxt e c)) (r₁ := 0) (r₂ := 0) (d₁ := false) (d₂ := false) (κ₁ := κ₁) (κ₂ := κ₂)
    (by rw [duties_xfer]; exact Finset.mem_singleton_self _) (by rw [duties_xfer]; exact Finset.mem_singleton_self _)
    () () N (credit_dst e s c) (amount_xfer m _ _ _) (amount_xfer m _ _ _) O rfl
    (by rw [payload_send]; exact sendPay_intro m c e s fs hfs)
    (by
      rw [payload_recv]
      refine BIBase.Entails.trans ?_ (recvPay_intro m c e s X _ hfs)
      exact sep_mono_left (owns_of_read _ _ _ _ _ (View.read_write_univ _ _)))) $$ [Hc₁ Hc₂ Hs Hd Hex HO Ht₁ Hr₁ Ht₂ Hr₂]
  · isplitl [Hc₁]; · iexact Hc₁
    isplitl [Hc₂]; · iexact Hc₂
    isplitl [Hs]; · iexact Hs
    isplitl [Hd Hex]
    · isplitl [Hd] <;> iassumption
    isplitl [HO]; · iexact HO
    isplitl [Ht₁]; · iexact Ht₁
    isplitl [Hr₁]; · iexact Hr₁
    isplitl [Ht₂] <;> iassumption
  iintro ⟨Hcr, HO⟩
  iapply Hk
  isplitl [Hcr]; · iexact Hcr
  iexists W
  iexact HO

/-- Waiting on one of the device's transfer cells below everything it owes: the payload comes, and the cell's counter is zero for good. -/
theorem wp_wait_cell (x : Bool × Bool × Fin 6) {q : DmaSem sig} (hq : q = xferS x)
    {ms md : Memref sig .tc .vmem S512x1024 .f32} (hN : md.view.dmaCredit = N)
    {hsrc : ms.view.WordExact} {hdst : md.view.WordExact}
    {k : PUnit → Prog (TpuEff nD τ sig (Elt F) Λ₀ .tc) α} (O : CellTallies nD τ sig Unit) (n : ℕ) (hO : Above n O) (hn : lv (cell (some x) c) () ≤ n)
    (P : sProp 𝕄)
    (hP : bigSep ((rd (F := F) m).duties (cell (some x) c) 0 \ ∅) (fun d => (rd (F := F) m).payload (cell (some x) c) 0 d) = P) :
    (iprop(levAts L lv ∗ waitPk m (some x) c ∗ cred (tallyAt (cell (some x) c) () N) ∗ owesE c O) : sProp 𝕄)
      ⊢ iprop(((owesE c O ∗ zero (some x) c ∗ P) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q ms md hsrc hdst) k) Q) := by
  subst hq
  unfold waitPk owesE
  iintro ⟨#Hlev, ⟨⟨%κ, #Hc⟩, Hat⟩, Hcr, ⟨%W, HO⟩⟩ Hk
  iapply (Rounds.wp_wait_rest_token 𝒱₀ ER (rd (F := F) m) (c : Thread nD τ) none (sm := .dma (xferS x)) (k' := N) (κ := κ)
    (fun K => (wpE_waitDma2_eq 𝒱₀ (c : Thread nD τ) none Set.univ K).trans (by rw [hN])) (Set.mem_univ _) () (O := O) (W := W) (R := 0) (m := 0) (T := ∅)
    (by rw [Nat.zero_add]; exact (expect_xfer m x c).symm)) $$ [Hcr HO Hat]
  · isplitr; · iexact Hc
    isplitl [Hcr]; · iexact Hcr
    isplitl [HO]; · iexact HO
    isplitr
    · iapply (mayWait c (.dma (xferS x)) n hn hO); iexact Hlev
    iexact Hat
  rw [hP]
  iintro ⟨HO, Hat, Hr, HP⟩
  imod (Rounds.cell_close ER (rd (F := F) m) (g := cell (some x) c) (κ := κ) (Set.mem_univ κ) (fun h => h) (R := 0 + 1) (fun r hr => duties_later m _ r hr)) $$ [Hat] with Hz
  · isplitr; · iexact Hc
    iexact Hat
  iapply Hk
  isplitl [HO]; · iexists _; iexact HO
  isplitl [Hz] <;> iassumption

/-- Waiting for the device's own send of a step: what was sent is the device's again. -/
theorem wp_wait_send (e : Bool) (s : Fin 6) {q : DmaSem sig} (hq : q = sendS e s)
    {ms md : Memref sig .tc .vmem S512x1024 .f32} (hN : md.view.dmaCredit = N)
    {hsrc : ms.view.WordExact} {hdst : md.view.WordExact}
    {k : PUnit → Prog (TpuEff nD τ sig (Elt F) Λ₀ .tc) α} (O : CellTallies nD τ sig Unit) (hO : Above 0 O) :
    (iprop(levAts L lv ∗ wait m (some (e, false, s)) N c ∗ owesE c O) : sProp 𝕄)
      ⊢ iprop(((owesE c O ∗ zero (some (e, false, s)) c ∗ owns (c : Thread nD τ) (src e s c) fullShare (sent m e s.val c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q ms md hsrc hdst) k) Q) := by
  refine BIBase.Entails.trans ?_ (wp_wait_cell m c (e, false, s) hq hN O 0 hO (le_of_eq (lv_send e s c)) _ (rest_send m e s c))
  unfold wait
  iintro ⟨Hl, ⟨Hw, Hcr⟩, HO⟩
  isplitl [Hl]; · iexact Hl
  isplitl [Hw]; · iexact Hw
  isplitl [Hcr] <;> iassumption

/-- Waiting for the neighbour's send of a step: what it sent has landed here. -/
theorem wp_wait_recv (e : Bool) (s : Fin 6) {q : DmaSem sig} (hq : q = recvS e s)
    {ms md : Memref sig .tc .vmem S512x1024 .f32} (hN : md.view.dmaCredit = N)
    {hsrc : ms.view.WordExact} {hdst : md.view.WordExact}
    {k : PUnit → Prog (TpuEff nD τ sig (Elt F) Λ₀ .tc) α} (O : CellTallies nD τ sig Unit) (hO : Above (s.val + 2) O) :
    (iprop(levAts L lv ∗ wait m (some (e, true, s)) N c ∗ owesE c O) : sProp 𝕄)
      ⊢ iprop(((owesE c O ∗ zero (some (e, true, s)) c ∗ owns (c : Thread nD τ) (dst e s (prv e c)) fullShare (sent m e s.val (prv e c)) ∗ extra e s c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q ms md hsrc hdst) k) Q) := by
  refine BIBase.Entails.trans ?_ (wp_wait_cell m c (e, true, s) hq hN O (s.val + 2) hO (le_of_eq (lv_recv e s c)) _ (rest_recv m e s c))
  unfold wait
  iintro ⟨Hl, ⟨Hw, Hcr⟩, HO⟩
  isplitl [Hl]; · iexact Hl
  isplitl [Hw]; · iexact Hw
  isplitl [Hcr] <;> iassumption

/-- Signalling a neighbour's barrier hands it, under the device's duty there, the places it may send to. -/
theorem wp_signal_step (d : Bool) {n c' : Dev nD} (hn : n = c') {sm : Sem sig} (hs : sm = barS) {z : ℤ} (hz : z = ((1 : ℕ) : ℤ))
    {k : PUnit → Prog (TpuEff nD τ sig (Elt F) Λ₀ .tc) α} (O : CellTallies nD τ sig Unit) :
    (iprop(signalPk m d c' ∗ barPay d c' ∗ owesE c (O + tallyAt (barCell c') () 1)) : sProp 𝕄)
      ⊢ iprop((owesE c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, .tc) sm z) k) Q) := by
  subst hn hs hz
  unfold signalPk owesE
  iintro ⟨⟨⟨%κ, Hc⟩, Ht, Hr⟩, HP, ⟨%W, HO⟩⟩ Hk
  iapply (Rounds.wp_signal 𝒱₀ ER (rd (F := F) m) (c : Thread nD τ) none (dst := (n : Thread nD τ)) (sem := barS) (κ := κ)
    (d := d) (r := 0) (k' := 1) (by rw [duties_bar]; exact Finset.mem_univ _) (amount_bar m n d) () O rfl) $$ [Hc Ht Hr HP HO]
  · isplitl [Hc]; · iexact Hc
    isplitl [HO]; · iexact HO
    isplitl [Ht]; · iexact Ht
    isplitl [HP]; · rw [payload_bar]; iexact HP
    iexact Hr
  iintro HO
  iapply Hk
  iexists W
  iexact HO

/-- Waiting on the device's own barrier for both neighbours: each has handed over the places the device may send to. -/
theorem wp_wait_bar {sm : Sem sig} (hs : sm = barS) {z : ℤ} (hz : z = ((2 : ℕ) : ℤ))
    {k : PUnit → Prog (TpuEff nD τ sig (Elt F) Λ₀ .tc) α} (O : CellTallies nD τ sig Unit) (hO : Above 1 O) :
    (iprop(levAts L lv ∗ wait m none 2 c ∗ owesE c O) : sProp 𝕄)
      ⊢ iprop(((owesE c O ∗ zero none c ∗ barPay false c ∗ barPay true c)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait sm z) k) Q) := by
  subst hs hz
  unfold wait waitPk owesE
  iintro ⟨#Hlev, ⟨⟨⟨%κ, #Hc⟩, Hat⟩, Hcr⟩, ⟨%W, HO⟩⟩ Hk
  iapply (Rounds.wp_wait_rest_token 𝒱₀ ER (rd (F := F) m) (c : Thread nD τ) none (sm := .reg barS) (k' := 2) (κ := κ)
    (wpE_semWait_eq 𝒱₀ (c : Thread nD τ) none Set.univ) (Set.mem_univ _) () (O := O) (W := W) (R := 0) (m := 0) (T := ∅)
    (by rw [Nat.zero_add]; exact (expect_bar m c).symm)) $$ [Hcr HO Hat]
  · isplitr; · iexact Hc
    isplitl [Hcr]; · iexact Hcr
    isplitl [HO]; · iexact HO
    isplitr
    · iapply (mayWait c (.reg barS) 1 (le_of_eq (lv_bar c)) hO); iexact Hlev
    iexact Hat
  rw [rest_bar m c]
  iintro ⟨HO, Hat, Hr, HP⟩
  imod (Rounds.cell_close ER (rd (F := F) m) (g := barCell c) (κ := κ) (Set.mem_univ κ) (fun h => h) (R := 0 + 1) (fun r hr => duties_later m _ r hr)) $$ [Hat] with Hz
  · isplitr; · iexact Hc
    iexact Hat
  iapply Hk
  isplitl [HO]; · iexists _; iexact HO
  isplitl [Hz] <;> iassumption

/-- What a send of step `s` of direction `e` takes. -/
def sendRes (e : Bool) (s : Fin 6) : sProp 𝕄 :=
  iprop(sendPk m e s c ∗ waitPk m (some (e, false, s)) c ∗ owns (c : Thread nD τ) (src e s c) fullShare (sent m e s.val c)
    ∗ room e s c ∗ extra e s (nxt e c))

/-- Both sends of a step, clockwise first. -/
theorem wp_send_both (k' : ℕ) (s : Fin 6) (hs : Fin.ofNat 6 (5 - k') = s) {n₁ n₂ : Dev nD} {ms₁ md₁ ms₂ md₂ : Memref sig .tc .vmem S512x1024 .f32}
    {qS₁ qR₁ qS₂ qR₂ : DmaSem sig}
    (hn₁ : n₁ = nxt false c) (hms₁ : ms₁ = src false s c) (hmd₁ : md₁ = dst false s c) (hqS₁ : qS₁ = sendS false s) (hqR₁ : qR₁ = recvS false s)
    (hn₂ : n₂ = nxt true c) (hms₂ : ms₂ = src true s c) (hmd₂ : md₂ = dst true s c) (hqS₂ : qS₂ = sendS true s) (hqR₂ : qR₂ = recvS true s)
    {hsc₁ : md₁.view.ref.isScScratch = false} {hsrc₁ : ms₁.view.WordExact} {hdst₁ : md₁.view.WordExact}
    {hsem₁ : DmaTarget.Typed .vmem (.dma qR₁) (.remote (Dev.tc n₁ : Thread nD τ) md₁ (.dma qS₁) hsc₁)}
    {hsc₂ : md₂.view.ref.isScScratch = false} {hsrc₂ : ms₂.view.WordExact} {hdst₂ : md₂.view.WordExact}
    {hsem₂ : DmaTarget.Typed .vmem (.dma qR₂) (.remote (Dev.tc n₂ : Thread nD τ) md₂ (.dma qS₂) hsc₂)}
    {k : PUnit → Prog (TpuEff nD τ sig (Elt F) Λ₀ .tc) α} :
    (iprop(sendRes m c false s ∗ sendRes m c true s ∗ owesE c (rest (k' + 1) c)) : sProp 𝕄)
      ⊢ iprop(((wait m (some (false, false, s)) N c ∗ wait m (some (true, false, s)) N c ∗ owesE c (rest k' c))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ms₁ (.remote (Dev.tc n₁) md₁ (.dma qS₁) hsc₁) (.dma qR₁) hsrc₁ hdst₁ hsem₁) fun _ =>
            .op (.enqueueDma ms₂ (.remote (Dev.tc n₂) md₂ (.dma qS₂) hsc₂) (.dma qR₂) hsrc₂ hdst₂ hsem₂) k) Q) := by
  have hO : rest (k' + 1) c = (rest k' c + tallyAt (recvCell true s (nxt true c)) () N) + tallyAt (recvCell false s (nxt false c)) () N := by
    subst hs; rfl
  rw [hO]
  unfold sendRes wait
  iintro ⟨⟨Hp1, Hw1, Hs1, Hr1, Hx1⟩, ⟨Hp2, Hw2, Hs2, Hr2, Hx2⟩, HO⟩ Hk
  iapply (wp_send_step m c false s hn₁ hms₁ hmd₁ hqS₁ hqR₁ _) $$ [Hp1 Hs1 Hr1 Hx1 HO]
  · isplitl [Hp1]; · iexact Hp1
    isplitl [Hs1]; · iexact Hs1
    isplitl [Hr1]; · iexact Hr1
    isplitl [Hx1] <;> iassumption
  iintro ⟨Hc1, HO⟩
  iapply (wp_send_step m c true s hn₂ hms₂ hmd₂ hqS₂ hqR₂ _) $$ [Hp2 Hs2 Hr2 Hx2 HO]
  · isplitl [Hp2]; · iexact Hp2
    isplitl [Hs2]; · iexact Hs2
    isplitl [Hr2]; · iexact Hr2
    isplitl [Hx2] <;> iassumption
  iintro ⟨Hc2, HO⟩
  iapply Hk
  isplitl [Hw1 Hc1]
  · isplitl [Hw1] <;> iassumption
  isplitl [Hw2 Hc2]
  · isplitl [Hw2] <;> iassumption
  iexact HO

end Comm

end Cert.KernelIdeal.Ring

end
-- ==== Proof.Regions.lean ====
/-
# Cutting buffers into pieces and joining them again

The result's staging buffer is its four chunks of rows, each of two halves; the buffer of the first product is two halves;
a receive buffer is three slots.
-/
module

public import proofs.«01_k».proof.Proof.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## General facts -/

/-- A unit-stride rectangle within another is the rectangle at the sum of the offsets. -/
theorem owns_nested (t : Thread nD τ) {sh : Shape} (M : Memref sig t.2.kind .vmem sh .f32) (q : PosShare TreeShare)
    {a₀ n₀ : Fin sh.rank → Nat} {h₀ : ∀ i, a₀ i + n₀ i ≤ sh.size i} {a' n : Fin sh.rank → Nat} {h' : ∀ i, a' i + n i ≤ n₀ i}
    {a : Fin sh.rank → Nat} {h : ∀ i, a i + n i ≤ sh.size i} (ha : ∀ i, a i = a₀ i + a' i)
    (X : (Rect.unit (s := sh) a n h).shape.Idx → Elt F .f32) :
    (owns t ((M.slice (Rect.unit (s := sh) a₀ n₀ h₀) (fun _ => rfl)).slice (Rect.unit (s := (Rect.unit (s := sh) a₀ n₀ h₀).shape) a' n h') (fun _ => rfl)) q X
        : sProp 𝕄)
      ⊢ owns t (M.slice (Rect.unit (s := sh) a n h) (fun _ => rfl)) q X := by
  have hemb : ∀ i : (Rect.unit (s := sh) a n h).shape.Idx,
      (Rect.unit (s := sh) a₀ n₀ h₀).emb ((Rect.unit (s := (Rect.unit (s := sh) a₀ n₀ h₀).shape) a' n h').emb i) = (Rect.unit (s := sh) a n h).emb i := by
    intro i; funext b; apply Fin.ext
    simp only [Rect.emb_apply, Rect.off_unit, Rect.stride_unit, Nat.one_mul]
    have hb := ha b
    omega
  have hset : ((M.slice (Rect.unit (s := sh) a₀ n₀ h₀) (fun _ => rfl)).slice (Rect.unit (s := (Rect.unit (s := sh) a₀ n₀ h₀).shape) a' n h') (fun _ => rfl)).view.set
      = (M.slice (Rect.unit (s := sh) a n h) (fun _ => rfl)).view.set := by
    refine congrArg (fun f => Finset.map f Finset.univ) ?_
    ext i : 1
    exact congrArg M.view.emb (hemb i)
  unfold owns
  iintro ⟨%f, %hf, H⟩
  iexists f
  isplitr
  · ipureintro
    rw [← hf]
    funext i
    exact congrArg (M.view.read (Elt F) f) (hemb i).symm
  rw [← hset]
  iexact H

/-- Parts of one buffer that do not meet, each at some contents, are their union at some contents. -/
theorem any_join (ℓ : Loc nD τ sig) {T : Type} [DecidableEq T] (A : T → Finset (Idx ℓ)) (hA : ∀ t t', t ≠ t' → Disjoint (A t) (A t')) (S : Finset T) :
    (bigSep S (fun t => iprop(∃ f : Buf (Elt F) ℓ, ℓ ↦[A t]{fullShare} f)) : sProp 𝕄)
      ⊢ iprop(∃ f : Buf (Elt F) ℓ, ℓ ↦[S.biUnion A]{fullShare} f) := by
  induction S using Finset.induction_on with
  | empty =>
    iintro -
    iexists (fun _ => Classical.arbitrary _)
    rw [Finset.biUnion_empty, pointsTo_empty]; iempintro
  | insert t S ht ih =>
    rw [BI.bigSep_insert ht, Finset.biUnion_insert]
    have hd : Disjoint (A t) (S.biUnion A) := (Finset.disjoint_biUnion_right _ _ _).mpr fun t' ht' => hA t t' fun e => ht (e ▸ ht')
    refine (show iprop((∃ f : Buf (Elt F) ℓ, ℓ ↦[A t]{fullShare} f) ∗ bigSep S (fun t => iprop(∃ f : Buf (Elt F) ℓ, ℓ ↦[A t]{fullShare} f))) ⊢ _ from ?_)
    iintro ⟨⟨%f, Ht⟩, HS⟩
    ihave H := ih $$ HS
    icases H with ⟨%g, HS⟩
    iexists (S.biUnion A).piecewise g f
    iapply (pointsTo_join hd)
    isplitl [Ht] <;> iassumption

/-- Rectangles of a whole buffer that cover it and do not meet, each owned at some contents, are the buffer at some contents. -/
theorem any_rects (c : Dev nD) (b : Ref sig .tc) {T : Type} [Fintype T] [DecidableEq T] (r : T → Rect b.ty.shape)
    (hd : ∀ t t', t ≠ t' → Disjoint (r t).set (r t').set) (hcov : (Finset.univ : Finset T).biUnion (fun t => (r t).set) = Finset.univ) :
    (bigSep Finset.univ (fun t => iprop(∃ f : Buf (Elt F) ((c : Thread nD τ).loc b),
        (c : Thread nD τ).loc b ↦[((Memref.whole b).view.slice (r t)).set]{fullShare} f)) : sProp 𝕄)
      ⊢ iprop(∃ f : Buf (Elt F) ((c : Thread nD τ).loc b), (c : Thread nD τ).loc b ↦{fullShare} f) := by
  refine (any_join ((c : Thread nD τ).loc b) (fun t => ((Memref.whole b).view.slice (r t)).set) (fun t t' h => ?_) Finset.univ).trans ?_
  · rw [View.set_slice, View.set_slice]; exact (Finset.disjoint_map _).mpr (hd t t' h)
  have hset : (Finset.univ : Finset T).biUnion (fun t => ((Memref.whole b).view.slice (r t)).set) = (Finset.univ : Finset (Idx ((c : Thread nD τ).loc b))) := by
    refine Finset.eq_univ_of_forall fun i => ?_
    obtain ⟨t, -, hx⟩ := Finset.mem_biUnion.mp (hcov.symm ▸ Finset.mem_univ i)
    refine Finset.mem_biUnion.mpr ⟨t, Finset.mem_univ _, ?_⟩
    rw [View.set_slice]
    exact Finset.mem_map.mpr ⟨i, hx, rfl⟩
  rw [hset]

/-! ## The families of rectangles -/

theorem rRect_disjoint (j j' : Dev nD) (h : j ≠ j') : Disjoint (rRect j).set (rRect j').set := by
  refine Finset.disjoint_left.mpr fun i hi hi' => h (Fin.ext ?_)
  have h0 := (Rect.mem_set_unit.mp hi) 0
  have h0' := (Rect.mem_set_unit.mp hi') 0
  change 512 * j.val ≤ (i 0).val ∧ (i 0).val < 512 * j.val + 512 at h0
  change 512 * j'.val ≤ (i 0).val ∧ (i 0).val < 512 * j'.val + 512 at h0'
  show j.val = j'.val
  omega
theorem mem_rRect (j : Dev nD) (i : S2048x2048.Idx) (h : 512 * j.val ≤ (i 0).val ∧ (i 0).val < 512 * j.val + 512) : i ∈ (rRect j).set := by
  refine Rect.mem_set_unit.mpr fun a => ?_
  refine Fin.cases h (fun a => Fin.cases ⟨Nat.zero_le _, ?_⟩ (fun a => a.elim0) a) a
  have : (i 1).val < 2048 := (i 1).isLt
  show (i 1).val < 0 + 2048
  omega
theorem rRect_cover : (Finset.univ : Finset (Dev nD)).biUnion (fun j => (rRect j).set) = Finset.univ := by
  refine Finset.eq_univ_of_forall fun i => Finset.mem_biUnion.mpr ⟨chunkOf i, Finset.mem_univ _, mem_rRect _ i ?_⟩
  show 512 * ((i 0).val / 512) ≤ (i 0).val ∧ (i 0).val < 512 * ((i 0).val / 512) + 512
  omega

theorem col_cases (e : Bool) : (e = false ∧ col e = 0) ∨ (e = true ∧ col e = 1024) := by cases e <;> [left; right] <;> exact ⟨rfl, rfl⟩

theorem hRect_disjoint (e e' : Bool) (h : e ≠ e') : Disjoint (hRect e).set (hRect e').set := by
  refine Finset.disjoint_left.mpr fun i hi hi' => h ?_
  have h1 := (Rect.mem_set_unit.mp hi) 1
  have h1' := (Rect.mem_set_unit.mp hi') 1
  change col e ≤ (i 1).val ∧ (i 1).val < col e + 1024 at h1
  change col e' ≤ (i 1).val ∧ (i 1).val < col e' + 1024 at h1'
  rcases col_cases e with ⟨rfl, h⟩ | ⟨rfl, h⟩ <;> rcases col_cases e' with ⟨rfl, h'⟩ | ⟨rfl, h'⟩ <;> first | rfl | (exfalso; omega)
theorem hRect_cover : (Finset.univ : Finset Bool).biUnion (fun e => (hRect e).set) = Finset.univ := by
  refine Finset.eq_univ_of_forall fun i => Finset.mem_biUnion.mpr ⟨decide (1024 ≤ (i 1).val), Finset.mem_univ _, Rect.mem_set_unit.mpr fun a => ?_⟩
  have h0 : (i 0).val < 512 := (i 0).isLt
  have h1 : (i 1).val < 2048 := (i 1).isLt
  refine Fin.cases ⟨Nat.zero_le _, ?_⟩ (fun a => Fin.cases ?_ (fun a => a.elim0) a) a
  · show (i 0).val < 0 + 512; omega
  · show col _ ≤ (i 1).val ∧ (i 1).val < col _ + 1024
    rcases Nat.lt_or_ge (i 1).val 1024 with h | h
    · rw [decide_eq_false (by omega)]; show 0 ≤ _ ∧ _ < 0 + 1024; omega
    · rw [decide_eq_true h]; show 1024 ≤ _ ∧ _ < 1024 + 1024; omega

theorem sRect_disjoint (h h' : Fin 3) (hne : h ≠ h') : Disjoint (sRect h).set (sRect h').set := by
  refine Finset.disjoint_left.mpr fun i hi hi' => hne (Fin.ext ?_)
  have h0 := (Rect.mem_set_unit.mp hi) 0
  have h0' := (Rect.mem_set_unit.mp hi') 0
  change h.val ≤ (i 0).val ∧ (i 0).val < h.val + 1 at h0
  change h'.val ≤ (i 0).val ∧ (i 0).val < h'.val + 1 at h0'
  omega
theorem sRect_cover : (Finset.univ : Finset (Fin 3)).biUnion (fun h => (sRect h).set) = Finset.univ := by
  refine Finset.eq_univ_of_forall fun i => Finset.mem_biUnion.mpr ⟨i 0, Finset.mem_univ _, Rect.mem_set_unit.mpr fun a => ?_⟩
  have h1 : (i 1).val < 512 := (i 1).isLt
  have h2 : (i 2).val < 1024 := (i 2).isLt
  refine Fin.cases ⟨Nat.le_refl _, Nat.lt_succ_self _⟩ (fun a => Fin.cases ⟨Nat.zero_le _, ?_⟩ (fun a => Fin.cases ⟨Nat.zero_le _, ?_⟩ (fun a => a.elim0) a) a) a
  · show (i 1).val < 0 + 512; omega
  · show (i 2).val < 0 + 1024; omega

theorem mem_pRect (j : Dev nD) (e : Bool) (i : S2048x2048.Idx) :
    i ∈ (pRect j e).set ↔ (512 * j.val ≤ (i 0).val ∧ (i 0).val < 512 * j.val + 512) ∧ (col e ≤ (i 1).val ∧ (i 1).val < col e + 1024) := by
  refine Rect.mem_set_unit.trans ⟨fun h => ⟨h 0, h 1⟩, fun h a => ?_⟩
  exact Fin.cases h.1 (fun a => Fin.cases h.2 (fun a => a.elim0) a) a
theorem pRect_disjoint (p p' : Dev nD × Bool) (h : p ≠ p') : Disjoint (pRect p.1 p.2).set (pRect p'.1 p'.2).set := by
  refine Finset.disjoint_left.mpr fun i hi hi' => h ?_
  obtain ⟨h0, h1⟩ := (mem_pRect _ _ i).mp hi
  obtain ⟨h0', h1'⟩ := (mem_pRect _ _ i).mp hi'
  refine Prod.ext (Fin.ext (by show p.1.val = p'.1.val; omega)) ?_
  rcases col_cases p.2 with ⟨g, h⟩ | ⟨g, h⟩ <;> rcases col_cases p'.2 with ⟨g', h'⟩ | ⟨g', h'⟩ <;> first | exact g.trans g'.symm | (exfalso; omega)
theorem pRect_cover : (Finset.univ : Finset (Dev nD × Bool)).biUnion (fun p => (pRect p.1 p.2).set) = Finset.univ := by
  refine Finset.eq_univ_of_forall fun i => Finset.mem_biUnion.mpr ⟨(chunkOf i, dirOf i), Finset.mem_univ _, (mem_pRect _ _ i).mpr ⟨?_, ?_⟩⟩
  · show 512 * ((i 0).val / 512) ≤ (i 0).val ∧ (i 0).val < 512 * ((i 0).val / 512) + 512
    omega
  · have h1 : (i 1).val < 2048 := (i 1).isLt
    show col (dirOf i) ≤ (i 1).val ∧ (i 1).val < col (dirOf i) + 1024
    unfold dirOf
    rcases Nat.lt_or_ge (i 1).val 1024 with h | h
    · rw [decide_eq_false (by omega)]; show 0 ≤ _ ∧ _ < 0 + 1024; omega
    · rw [decide_eq_true h]; show 1024 ≤ _ ∧ _ < 1024 + 1024; omega

/-! ## The devices around the ring, from one of them -/

/-- The devices, as those 0, 1, 2 and 3 places behind `c` in direction `e`. -/
def behind (e : Bool) (c : Dev nD) : Fin 4 ≃ Dev nD where
  toFun k := back e k.val c
  invFun j := ⟨(bif e then j.val + (4 - c.val) else c.val + (4 - j.val)) % 4, Nat.mod_lt _ (by decide)⟩
  left_inv := by revert c; cases e <;> decide
  right_inv := by revert c; cases e <;> decide

theorem around (e : Bool) (c : Dev nD) (Φ : Dev nD → sProp 𝕄) :
    bigSep Finset.univ Φ = iprop(Φ c ∗ Φ (back e 1 c) ∗ Φ (back e 2 c) ∗ Φ (back e 3 c)) := by
  rw [bigSep_univ_equiv (behind e c) Φ, bigSep_univ_eq_bigSepL [0, 1, 2, 3] (by decide) (by decide), bigSepL_cons_cons, bigSepL_cons_cons,
    bigSepL_cons_cons, bigSepL_singleton]
  show iprop(Φ (back e 0 c) ∗ Φ (back e 1 c) ∗ Φ (back e 2 c) ∗ Φ (back e 3 c)) = _
  rw [back_zero]

theorem both (Φ : Bool → sProp 𝕄) : bigSep Finset.univ Φ = iprop(Φ false ∗ Φ true) := by
  rw [bigSep_univ_eq_bigSepL [false, true] (by decide) (by decide), bigSepL_cons_cons, bigSepL_singleton]
  rfl

theorem three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

/-! ## The buffers -/

section Bufs
variable (c : Dev nD)

/-- The result's staging buffer is its four chunks. -/
theorem out_rows (X : S2048x2048.Idx → Elt F .f32) :
    (owns (c : Thread nD τ) outM fullShare X : sProp 𝕄)
      ⊢ bigSep Finset.univ fun j => owns (c : Thread nD τ) (outRow j) fullShare (fun i => X ((rRect j).emb i)) :=
  owns_rects (c : Thread nD τ) outM fullShare rRect (fun _ _ => rfl) rRect_disjoint rRect_cover X

/-- A chunk is its two halves. -/
theorem outRow_split (j : Dev nD) (X : S512x2048.Idx → Elt F .f32) :
    (owns (c : Thread nD τ) (outRow j) fullShare X : sProp 𝕄)
      ⊢ iprop(owns (c : Thread nD τ) (outP j false) fullShare (half false X) ∗ owns (c : Thread nD τ) (outP j true) fullShare (half true X)) := by
  refine (owns_rects (c : Thread nD τ) (outRow j) fullShare hRect (fun _ _ => rfl) hRect_disjoint hRect_cover X).trans ?_
  rw [both]
  have h : ∀ e, (owns (c : Thread nD τ) ((outRow j).slice (hRect e) (fun _ => rfl)) fullShare (half e X) : sProp 𝕄)
      ⊢ owns (c : Thread nD τ) (outP j e) fullShare (half e X) := fun e =>
    owns_nested (c : Thread nD τ) outM fullShare (fun i => by
      refine Fin.cases ?_ (fun a => Fin.cases ?_ (fun a => a.elim0) a) i
      · rfl
      · show col e = 0 + col e; rw [Nat.zero_add]) (half e X)
  exact BIClass.sep_mono (h false) (h true)

/-- The first product's buffer is its two halves, -/
theorem mm_split (X : S512x2048.Idx → Elt F .f32) :
    (owns (c : Thread nD τ) mmM fullShare X : sProp 𝕄)
      ⊢ iprop(owns (c : Thread nD τ) (mmP false) fullShare (half false X) ∗ owns (c : Thread nD τ) (mmP true) fullShare (half true X)) := by
  refine (owns_rects (c : Thread nD τ) mmM fullShare hRect (fun _ _ => rfl) hRect_disjoint hRect_cover X).trans ?_
  rw [both]
  exact .rfl
/-- and back, at any contents. -/
theorem mm_join (X Y : S512x1024.Idx → Elt F .f32) :
    (iprop(owns (c : Thread nD τ) (mmP false) fullShare X ∗ owns (c : Thread nD τ) (mmP true) fullShare Y) : sProp 𝕄)
      ⊢ iprop(∃ f : Buf (Elt F) ((c : Thread nD τ).loc cc0_scratch0), (c : Thread nD τ).loc cc0_scratch0 ↦{fullShare} f) := by
  refine BIBase.Entails.trans ?_ (any_rects c cc0_scratch0 hRect hRect_disjoint hRect_cover)
  rw [both]
  have h : ∀ (e : Bool) X, (owns (c : Thread nD τ) (mmP e) fullShare X : sProp 𝕄)
      ⊢ iprop(∃ f : Buf (Elt F) ((c : Thread nD τ).loc cc0_scratch0), (c : Thread nD τ).loc cc0_scratch0 ↦[((Memref.whole cc0_scratch0).view.slice (hRect e)).set]{fullShare} f) := by
    intro e X
    unfold owns
    iintro ⟨%f, %hf, H⟩
    iexists f
    iexact H
  exact BIClass.sep_mono (h false X) (h true Y)

/-- A slot at any contents. -/
def anySlot (e : Bool) (h : Fin 3) : sProp 𝕄 := iprop(∃ X, owns (c : Thread nD τ) (slotM e h) fullShare X)

/-- The buffer that a direction's receives land in. -/
def rsRef (e : Bool) : Ref sig .tc := bif e then cc0_scratch2 else cc0_scratch1

theorem slot_set (e : Bool) (h : Fin 3) : (slotM e h).view.set = ((rsM e).view.slice (sRect h)).set := View.set_reshape _ _

/-- A receive buffer is its three slots, -/
theorem rs_split (e : Bool) (X : S3x512x1024.Idx → Elt F .f32) :
    (owns (c : Thread nD τ) (rsM e) fullShare X : sProp 𝕄) ⊢ iprop(anySlot c e 0 ∗ anySlot c e 1 ∗ anySlot c e 2) := by
  refine (owns_rects (c : Thread nD τ) (rsM e) fullShare sRect (fun _ _ => rfl) sRect_disjoint sRect_cover X).trans ?_
  rw [three]
  have h : ∀ h : Fin 3, (owns (c : Thread nD τ) ((rsM e).slice (sRect h) (fun _ => rfl)) fullShare (fun j => X ((sRect h).emb j)) : sProp 𝕄) ⊢ anySlot c e h := by
    intro h
    unfold anySlot owns
    iintro ⟨%f, %hf, H⟩
    iexists _
    iexists f
    isplitr
    · ipureintro; rfl
    rw [slot_set]
    iexact H
  exact BIClass.sep_mono (h 0) (BIClass.sep_mono (h 1) (h 2))

theorem anySlot_pts (e : Bool) (h : Fin 3) :
    (anySlot c e h : sProp 𝕄) ⊢ iprop(∃ f : Buf (Elt F) ((rsM e).view.loc (c : Thread nD τ)), (rsM e).view.loc (c : Thread nD τ) ↦[((rsM e).view.slice (sRect h)).set]{fullShare} f) := by
  unfold anySlot owns
  iintro ⟨%X, %f, %hf, H⟩
  iexists f
  rw [← slot_set]
  iexact H

/-- and back. -/
theorem rs_join_false :
    (iprop(anySlot c false 0 ∗ anySlot c false 1 ∗ anySlot c false 2) : sProp 𝕄)
      ⊢ iprop(∃ f : Buf (Elt F) ((c : Thread nD τ).loc cc0_scratch1), (c : Thread nD τ).loc cc0_scratch1 ↦{fullShare} f) := by
  refine BIBase.Entails.trans ?_ (any_rects c cc0_scratch1 sRect sRect_disjoint sRect_cover)
  rw [three]
  exact BIClass.sep_mono (anySlot_pts c false 0) (BIClass.sep_mono (anySlot_pts c false 1) (anySlot_pts c false 2))
theorem rs_join_true :
    (iprop(anySlot c true 0 ∗ anySlot c true 1 ∗ anySlot c true 2) : sProp 𝕄)
      ⊢ iprop(∃ f : Buf (Elt F) ((c : Thread nD τ).loc cc0_scratch2), (c : Thread nD τ).loc cc0_scratch2 ↦{fullShare} f) := by
  refine BIBase.Entails.trans ?_ (any_rects c cc0_scratch2 sRect sRect_disjoint sRect_cover)
  rw [three]
  exact BIClass.sep_mono (anySlot_pts c true 0) (BIClass.sep_mono (anySlot_pts c true 1) (anySlot_pts c true 2))

/-- A half chunk as the device that finished it has it. -/
def done (e : Bool) (j : Dev nD) : sProp 𝕄 := owns (c : Thread nD τ) (outP j e) fullShare (fin m e (prv e j))

/-- All half chunks finished are the result. -/
theorem out_join :
    (iprop(bigSep Finset.univ (done m c false) ∗ bigSep Finset.univ (done m c true)) : sProp 𝕄)
      ⊢ owns (c : Thread nD τ) outM fullShare (outAt m) := by
  have hcov : (Finset.univ : Finset (Bool × Dev nD)).biUnion (fun p => (pRect p.2 p.1).set) = Finset.univ :=
    Finset.eq_univ_of_forall fun i => by
      obtain ⟨p, -, hp⟩ := Finset.mem_biUnion.mp (pRect_cover.symm ▸ Finset.mem_univ i)
      exact Finset.mem_biUnion.mpr ⟨(p.2, p.1), Finset.mem_univ _, hp⟩
  have hd : ∀ p p' : Bool × Dev nD, p ≠ p' → Disjoint (pRect p.2 p.1).set (pRect p'.2 p'.1).set := fun p p' h =>
    pRect_disjoint (p.2, p.1) (p'.2, p'.1) (fun h' => h (Prod.ext (congrArg Prod.snd h') (congrArg Prod.fst h')))
  refine BIBase.Entails.trans ?_ (owns_of_rects (Val := Elt F) (e := .f32) (c : Thread nD τ) outM fullShare (fun p : Bool × Dev nD => pRect p.2 p.1)
    (fun _ _ => rfl) hd hcov (outAt m))
  rw [bigSep_univ_prod, both]
  have h : ∀ e j, (done m c e j : sProp 𝕄) ⊢ owns (c : Thread nD τ) (outM.slice (pRect j e) (fun _ => rfl)) fullShare (fun i => outAt m ((pRect j e).emb i)) := by
    intro e j; rw [outAt_piece]; exact .rfl
  exact BIClass.sep_mono (bigSep_mono fun j _ => h false j) (bigSep_mono fun j _ => h true j)

end Bufs

end Cert.KernelIdeal.Ring

end
-- ==== Proof.Gather.lean ====
/-
# The gathering half of the kernel

What the first parts of the kernel's body do on a device: the barrier, the four partial products, and the three steps in
which half chunks go round and are summed.
-/
module

public import proofs.«01_k».proof.Proof.Regions
public import proofs.«01_k».proof.Proof.Gen.KernelIdeal.Skeleton
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

abbrev xM : Memref sig .tc .vmem S2048x512 .f32 := Memref.whole cc0_stg0_0
abbrev wM : Memref sig .tc .vmem S512x2048 .f32 := Memref.whole cc0_stg1_0
abbrev cwM : Memref sig .tc .vmem S3x512x1024 .f32 := Memref.whole cc0_scratch1
abbrev ccwM : Memref sig .tc .vmem S3x512x1024 .f32 := Memref.whole cc0_scratch2

/-- The operands' staging buffers at their contents. -/
def ins : sProp 𝕄 := iprop(((c : Thread nD τ).loc cc0_stg0_0 ↦{fullShare} xs m c) ∗ ((c : Thread nD τ).loc cc0_stg1_0 ↦{fullShare} ws m c))

theorem zero2 : (![0, 0] : Fin 2 → Nat) = fun _ => 0 := by funext i; revert i; decide

/-- A device signals both neighbours and waits for both: it may then send to its neighbours' places. -/
theorem part1_spec {Q : (Σ' (d0 : Dev nD) (v2 : BitVec 32) (v13 : BitVec 32) (v24 : BitVec 32), BitVec 32) → sProp 𝕄} :
    (iprop(levAts L lv ∗ barPk m c ∗ barPay false (nxt true c) ∗ barPay true (nxt false c) ∗ owesE c (owed₀ c)) : sProp 𝕄)
      ⊢ iprop((∀ v2 v13 v24 v30, (owesE c (rest 6 c) ∗ zero none c ∗ barPay false c ∗ barPay true c) -∗ Q ⟨c, v2, v13, v24, v30⟩)
        -∗ wp frame (wpE (defs₀ (F := F)) 𝒱₀ (c : Thread nD τ) none) Set.univ
          (k0_part1 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6) Q) := by
  rw [k0_part1_eq_skeleton]
  unfold k0_part1_skel barPk owed₀ owed₁
  simp only [semSignalWord, semWaitWord, Prog.lift, Prog.bind_op, Prog.bind_ret, Prog.pure_eq_ret, wp_deviceId]
  iintro ⟨#Hlev, ⟨Hs1, Hs2, Hw⟩, Hp1, Hp2, HO⟩ Hk
  iapply (wp_signal_step m c false (dev1_eq c) rfl (by decide) _) $$ [Hs1 Hp1 HO]
  · isplitl [Hs1]; · iexact Hs1
    isplitl [Hp1] <;> iassumption
  iintro HO
  iapply (wp_signal_step m c true (dev2_eq c) rfl (by decide) _) $$ [Hs2 Hp2 HO]
  · isplitl [Hs2]; · iexact Hs2
    isplitl [Hp2] <;> iassumption
  iintro HO
  iapply (wp_wait_bar m c rfl (by decide) (rest 6 c) (above_rest c 6 1 (by decide) (by decide))) $$ [Hw HO]
  · isplitr; · iexact Hlev
    isplitl [Hw] <;> iassumption
  iintro ⟨HO, Hz, Hb1, Hb2⟩
  simp only [wp_ret]
  imodintro
  iapply Hk
  isplitl [HO]; · iexact HO
  isplitl [Hz]; · iexact Hz
  isplitl [Hb1] <;> iassumption

theorem pay1_eq (a : Vec F S512x512 .f32) (b : Vec F S512x2048 .f32) : k0_pay1 a b = k0_pay2 a b := by
  unfold k0_pay1 k0_pay2; exact shapeCast_self _ _
theorem prod_eq (j : Dev nD) : k0_pay2 (rowsOf (xs m c) j) (ws m c) = prod m c j := rfl
theorem pay3_eq (a : Vec F S512x512 .f32) (b : Vec F S512x2048 .f32) : k0_pay3 a b = k0_pay2 a b := rfl
theorem pay4_eq (a : Vec F S512x512 .f32) (b : Vec F S512x2048 .f32) : k0_pay4 a b = k0_pay2 a b := rfl

/-- The device's own rows are multiplied first, and both halves of the product sent off. -/
theorem part2_spec (v2 v13 v24 v30 : BitVec 32) (f : (cc0_scratch0 : Ref sig .tc).ty.Contents (Elt F)) {Q : (Σ' (v58 : BitVec 32) (c4_i32_41 : BitVec 32) (v59 : BitVec 1), BitVec 32) → sProp 𝕄} :
    (iprop(ins m c ∗ ((c : Thread nD τ).loc cc0_scratch0 ↦{fullShare} f)
        ∗ (sendPk m false 0 c ∗ waitPk m (some (false, false, 0)) c ∗ room false 0 c)
        ∗ (sendPk m true 0 c ∗ waitPk m (some (true, false, 0)) c ∗ room true 0 c) ∗ owesE c (rest 6 c)) : sProp 𝕄)
      ⊢ iprop((∀ r, (ins m c ∗ wait m (some (false, false, 0)) N c ∗ wait m (some (true, false, 0)) N c ∗ owesE c (rest 5 c)) -∗ Q r)
        -∗ wp frame (wpE (defs₀ (F := F)) 𝒱₀ (c : Thread nD τ) none) Set.univ
          (k0_part2 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v13 v24 v30) Q) := by
  rw [k0_part2_eq_skeleton]
  unfold k0_part2_skel ins
  simp only [Prog.lift, Prog.bind_op, Prog.bind_ret, Prog.pure_eq_ret]
  iintro ⟨⟨Hx, Hw⟩, Hmm, ⟨Hp1, Hw1, Hr1⟩, ⟨Hp2, Hw2, Hr2⟩, HO⟩ Hk
  iapply (wp_load_x c c (off1_eq c) (xs m c)) $$ Hx
  iintro Hx
  iapply (wp_load_w c zero2 (ws m c)) $$ Hw
  iintro Hw
  iapply (wp_load_mm c zero2 f) $$ Hmm
  iintro Hmm
  iapply (wp_store_mm c zero2 f) $$ Hmm
  rw [pay1_eq, prod_eq]
  iintro Hmm
  ihave Hs := mm_split c (prod m c c) $$ Hmm
  icases Hs with ⟨Hs1, Hs2⟩
  iapply (wp_send_both m c 5 0 rfl (dev3_eq c) rfl rfl rfl rfl (dev4_eq c) rfl rfl rfl rfl) $$ [Hp1 Hw1 Hr1 Hs1 Hp2 Hw2 Hr2 Hs2 HO]
  · unfold sendRes
    isplitl [Hp1 Hw1 Hr1 Hs1]
    · isplitl [Hp1]; · iexact Hp1
      isplitl [Hw1]; · iexact Hw1
      isplitl [Hs1]; · iexact Hs1
      isplitl [Hr1]; · iexact Hr1
      iempintro
    isplitl [Hp2 Hw2 Hr2 Hs2]
    · isplitl [Hp2]; · iexact Hp2
      isplitl [Hw2]; · iexact Hw2
      isplitl [Hs2]; · iexact Hs2
      isplitl [Hr2]; · iexact Hr2
      iempintro
    iexact HO
  iintro ⟨H1, H2, HO⟩
  simp only [wp_ret]
  imodintro
  iapply Hk
  isplitl [Hx Hw]
  · isplitl [Hx] <;> iassumption
  isplitl [H1]; · iexact H1
  isplitl [H2] <;> iassumption

/-- The rows of the chunk one place behind are multiplied into the result's buffer, and those three places behind multiplied. -/
theorem part3_spec (v2 v58 v41 v43 : BitVec 32) (v59 : BitVec 1) (X : S512x2048.Idx → Elt F .f32) {Q : (Σ' (v89 : BitVec 32), FVec F S512x2048 .f32) → sProp 𝕄} :
    (iprop(ins m c ∗ owns (c : Thread nD τ) (outRow (back false 1 c)) fullShare X) : sProp 𝕄)
      ⊢ iprop((∀ v89, (ins m c ∗ owns (c : Thread nD τ) (outRow (back false 1 c)) fullShare (prod m c (back false 1 c))) -∗ Q ⟨v89, prod m c (back false 3 c)⟩)
        -∗ wp frame (wpE (defs₀ (F := F)) 𝒱₀ (c : Thread nD τ) none) Set.univ
          (k0_part3 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v58 v41 v59 v43) Q) := by
  rw [k0_part3_eq_skeleton]
  unfold k0_part3_skel ins
  simp only [Prog.lift, Prog.bind_op, Prog.bind_ret, Prog.pure_eq_ret]
  iintro ⟨⟨Hx, Hw⟩, Hr⟩ Hk
  iapply (wp_load_x c (back false 1 c) (off2_eq c) (xs m c)) $$ Hx
  iintro Hx
  iapply (wp_load_w c zero2 (ws m c)) $$ Hw
  iintro Hw
  iapply (wp_load_row c (back false 1 c) (off3_eq c) X) $$ Hr
  iintro Hr
  iapply (wp_store_row c (back false 1 c) (off3_eq c) X) $$ Hr
  rw [prod_eq]
  iintro Hr
  iapply (wp_load_x c (back false 3 c) (off4_eq c).1 (xs m c)) $$ Hx
  iintro Hx
  iapply (wp_load_w c zero2 (ws m c)) $$ Hw
  iintro Hw
  rw [pay3_eq, prod_eq]
  simp only [wp_ret]
  imodintro
  iapply Hk
  isplitl [Hx Hw]
  · isplitl [Hx] <;> iassumption
  iexact Hr

/-- That product is stored, and the rows of the chunk two places behind are multiplied. -/
theorem part4_spec (v2 v89 : BitVec 32) (X Y : S512x2048.Idx → Elt F .f32) {Q : (Σ' (v124 : BitVec 32) (v125 : BitVec 32), BitVec 1) → sProp 𝕄} :
    (iprop(ins m c ∗ owns (c : Thread nD τ) (outRow (back false 3 c)) fullShare X ∗ owns (c : Thread nD τ) (outRow (back false 2 c)) fullShare Y) : sProp 𝕄)
      ⊢ iprop((∀ r, (ins m c ∗ owns (c : Thread nD τ) (outRow (back false 3 c)) fullShare (prod m c (back false 3 c)) ∗ owns (c : Thread nD τ) (outRow (back false 2 c)) fullShare (prod m c (back false 2 c))) -∗ Q r)
        -∗ wp frame (wpE (defs₀ (F := F)) 𝒱₀ (c : Thread nD τ) none) Set.univ
          (k0_part4 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v89 (prod m c (back false 3 c))) Q) := by
  rw [k0_part4_eq_skeleton]
  unfold k0_part4_skel ins
  simp only [Prog.lift, Prog.bind_op, Prog.bind_ret, Prog.pure_eq_ret]
  iintro ⟨⟨Hx, Hw⟩, Hr, Hr'⟩ Hk
  iapply (wp_load_row c (back false 3 c) (off5_eq c).1 X) $$ Hr
  iintro Hr
  iapply (wp_store_row c (back false 3 c) (off5_eq c).1 X) $$ Hr
  iintro Hr
  iapply (wp_load_x c (back false 2 c) (off4_eq c).2 (xs m c)) $$ Hx
  iintro Hx
  iapply (wp_load_w c zero2 (ws m c)) $$ Hw
  iintro Hw
  iapply (wp_load_row c (back false 2 c) (off5_eq c).2 Y) $$ Hr'
  iintro Hr'
  iapply (wp_store_row c (back false 2 c) (off5_eq c).2 Y) $$ Hr'
  rw [pay4_eq, prod_eq]
  iintro Hr'
  simp only [wp_ret]
  imodintro
  iapply Hk
  isplitl [Hx Hw]
  · isplitl [Hx] <;> iassumption
  isplitl [Hr] <;> iassumption

end Cert.KernelIdeal.Ring

end
-- ==== Proof.Sums.lean ====
/-
# The three summing steps

What the fifth to fourteenth parts of the kernel's body do on a device: half chunks arrive from both neighbours, each is
added to the device's own partial product and sent on, and what arrives last is finished.
-/
module

public import proofs.«01_k».proof.Proof.Gather

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- What both waits of step `s` of direction `e` leave: two cells at zero, what was sent, what has come, and the place handed back. -/
def got (e : Bool) (s : Fin 6) : sProp 𝕄 :=
  iprop((zero (some (e, false, s)) c ∗ zero (some (e, true, s)) c) ∗ owns (c : Thread nD τ) (src e s c) fullShare (sent m e s.val c)
    ∗ owns (c : Thread nD τ) (dst e s (prv e c)) fullShare (sent m e s.val (prv e c)) ∗ extra e s c)

section
variable {α : Type} {Q : α → sProp (MT nD τ sig Unit (Elt F) ℕ UU ℕ)}

/-- The two waits of a step, one after the other. -/
theorem wp_wait_both (e : Bool) (s : Fin 6) (k : ℕ) (hk : k ≤ 6) (hs : s.val + 2 + k ≤ 7) {q₁ q₂ : DmaSem sig} (hq₁ : q₁ = sendS e s) (hq₂ : q₂ = recvS e s)
    {ms₁ md₁ ms₂ md₂ : Memref sig .tc .vmem S512x1024 .f32} (hN₁ : md₁.view.dmaCredit = N) (hN₂ : md₂.view.dmaCredit = N)
    {hsrc₁ : ms₁.view.WordExact} {hdst₁ : md₁.view.WordExact} {hsrc₂ : ms₂.view.WordExact} {hdst₂ : md₂.view.WordExact}
    {k' : PUnit → Prog (TpuEff nD τ sig (Elt F) Λ₀ .tc) α} :
    (iprop(levAts L lv ∗ (wait m (some (e, false, s)) N c ∗ wait m (some (e, true, s)) N c) ∗ owesE c (rest k c)) : sProp 𝕄)
      ⊢ iprop(((owesE c (rest k c) ∗ got m c e s) -∗ wp frame (wpE (defs₀ (F := F)) 𝒱₀ (c : Thread nD τ) none) Set.univ (k' ⟨⟩) Q)
        -∗ wp frame (wpE (defs₀ (F := F)) 𝒱₀ (c : Thread nD τ) none) Set.univ
          (.op (.waitDma2 q₁ ms₁ md₁ hsrc₁ hdst₁) fun _ => .op (.waitDma2 q₂ ms₂ md₂ hsrc₂ hdst₂) k') Q) := by
  iintro ⟨#Hlev, ⟨H1, H2⟩, HO⟩ Hk
  iapply (wp_wait_send m c e s hq₁ hN₁ (rest k c) (above_rest c k 0 hk (by omega))) $$ [H1 HO]
  · isplitr; · iexact Hlev
    isplitl [H1] <;> iassumption
  iintro ⟨HO, Hz1, Hs⟩
  iapply (wp_wait_recv m c e s hq₂ hN₂ (rest k c) (above_rest c k (s.val + 2) hk hs)) $$ [H2 HO]
  · isplitr; · iexact Hlev
    isplitl [H2] <;> iassumption
  iintro ⟨HO, Hz2, Hd, Hx⟩
  iapply Hk
  isplitl [HO]; · iexact HO
  unfold got
  isplitl [Hz1 Hz2]
  · isplitl [Hz1] <;> iassumption
  isplitl [Hs]; · iexact Hs
  isplitl [Hd] <;> iassumption

theorem credit_slice (j : Dev nD) (e : Bool) {a : Fin 2 → Nat} {ha : ∀ i, a i + S512x1024.size i ≤ S2048x2048.size i} (h : a = pOff j e) :
    (outM.slice (Rect.unit (s := S2048x2048) a S512x1024.size ha) (fun _ => rfl)).view.dmaCredit = N := by subst h; exact credit_out j e

/-- Loading the slot that has come. -/
theorem wp_load_got (e : Bool) (s : Fin 6) (k₀ : ℕ) (hk : s.val = k₀) (h : s.val < 3) {M : Memref sig .tc .vmem S3x512x1024 .f32} (hM : M = rsM e)
    {a : Fin 3 → Nat} {ha : ∀ i, a i + S1x512x1024.size i ≤ S3x512x1024.size i} (haeq : a = sOff ⟨s.val, h⟩)
    {hl : M.view.LoadsAt (Rect.unit (s := S3x512x1024) a S1x512x1024.size ha).toLoadRect}
    {k : (S1x512x1024.Idx → Elt F .f32) → Prog (TpuEff nD τ sig (Elt F) Λ₀ .tc) α} :
    (got m c e s : sProp 𝕄)
      ⊢ iprop((∀ Y : S1x512x1024.Idx → Elt F .f32, ⌜shapeCast S512x1024 Y shapeCasts_S1x512x1024_S512x1024 = acc m e k₀ (prv e c)⌝ -∗
          got m c e s -∗ wp frame (wpE (defs₀ (F := F)) 𝒱₀ (c : Thread nD τ) none) Set.univ (k Y) Q)
        -∗ wp frame (wpE (defs₀ (F := F)) 𝒱₀ (c : Thread nD τ) none) Set.univ
          (.op (.load M (Rect.unit (s := S3x512x1024) a S1x512x1024.size ha).toLoadRect hl) k) Q) := by
  subst hk
  unfold got
  rw [dst_slot e s _ h, ← sent_of_lt m e h (prv e c)]
  iintro ⟨Hz, Hs, Hd, Hx⟩ Hk
  iapply (wp_load_slot c e ⟨s.val, h⟩ hM haeq (sent m e s.val (prv e c))) $$ Hd
  iintro %Y %hY Hd
  ispecialize Hk $$ %Y
  iapply Hk
  · ipureintro; exact hY
  isplitl [Hz]; · iexact Hz
  isplitl [Hs]; · iexact Hs
  isplitl [Hd] <;> iassumption
end

theorem cast_self (V : FVec F S512x1024 .f32) : shapeCast S512x1024 V shapeCasts_S512x1024_S512x1024 = V := shapeCast_self V _
theorem pay5_eq (V : FVec F S512x1024 .f32) : k0_pay5 V = V := cast_self V
theorem pay8_eq (V : FVec F S512x1024 .f32) : k0_pay8 V = V := cast_self V
theorem pay15_eq (V : FVec F S512x1024 .f32) : k0_pay15 V = V := cast_self V
theorem pay9_eq (Y : Vec F S1x512x1024 .f32) {X : FVec F S512x1024 .f32} (h : shapeCast S512x1024 Y shapeCasts_S1x512x1024_S512x1024 = X) :
    k0_pay9 Y = X := h
theorem pay6_eq (V : FVec F S512x1024 .f32) (Y : Vec F S1x512x1024 .f32) {X : FVec F S512x1024 .f32}
    (h : shapeCast S512x1024 Y shapeCasts_S1x512x1024_S512x1024 = X) : k0_pay6 V Y = addf V X := by subst h; rfl
theorem pay7_eq (V : FVec F S512x1024 .f32) (Y : Vec F S1x512x1024 .f32) {X : FVec F S512x1024 .f32}
    (h : shapeCast S512x1024 Y shapeCasts_S1x512x1024_S512x1024 = X) : k0_pay7 V Y = addf V X := by
  unfold k0_pay7; rw [cast_self, h]
theorem pay11_eq (V : FVec F S512x1024 .f32) (Y : Vec F S1x512x1024 .f32) : k0_pay11 V Y = k0_pay7 V Y := rfl
theorem pay12_eq (V : FVec F S512x1024 .f32) (Y : Vec F S1x512x1024 .f32) : k0_pay12 V Y = k0_pay7 V Y := rfl
theorem pay13_eq (V : FVec F S512x1024 .f32) (Y : Vec F S1x512x1024 .f32) : k0_pay13 V Y = k0_pay7 V Y := rfl
theorem pay10_eq (V X : FVec F S512x1024 .f32) : k0_pay10 V X = addf V X := rfl
theorem pay16_eq (V : FVec F S512x1024 .f32) : k0_pay16 V (Scalar.ofBits .f32 0x3F000000#32) = k0_pay14 V := by
  unfold k0_pay14; rw [cast_self]; rfl
theorem acc_succ (e : Bool) (s : ℕ) : addf (half e (prod m c (back e (s + 1) c))) (acc m e s (prv e c)) = acc m e (s + 1) c := rfl

/-- The first clockwise half chunk has come; the device's own product there is read. -/
theorem part5_spec (v2 v24 v124 v125 : BitVec 32) (v130 : BitVec 1) (V : FVec F S512x1024 .f32) {Q : (Σ' (v132 : BitVec 32) (v144 : BitVec 32), FVec F S512x1024 .f32) → sProp (MT nD τ sig Unit (Elt F) ℕ UU ℕ)} :
    (iprop(levAts L lv ∗ (wait m (some (false, false, 0)) N c ∗ wait m (some (false, true, 0)) N c) ∗ owns (c : Thread nD τ) (outP (back false 1 c) false) fullShare (V) ∗ owesE c (rest 5 c)) : sProp 𝕄)
      ⊢ iprop((∀ v132 v144, (got m c false 0 ∗ owns (c : Thread nD τ) (outP (back false 1 c) false) fullShare (V) ∗ owesE c (rest 5 c)) -∗ Q ⟨v132, v144, V⟩)
        -∗ wp frame (wpE (defs₀ (F := F)) 𝒱₀ (c : Thread nD τ) none) Set.univ
          (k0_part5 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v24 v124 v125 v130) Q) := by
  rw [k0_part5_eq_skeleton]
  unfold k0_part5_skel
  simp only [Prog.lift, Prog.bind_op, Prog.bind_ret, Prog.pure_eq_ret]
  iintro ⟨#Hlev, Hg, Ho, HO⟩ Hk
  iapply (wp_wait_both m c false 0 5 (by decide) (by decide) rfl rfl (credit_mm false) (credit_slot false 0)) $$ [Hg HO]
  · isplitr; · iexact Hlev
    isplitl [Hg] <;> iassumption
  iintro ⟨HO, Hg⟩
  iapply (wp_load_out c (back false 1 c) false (off6_eq c).1 (V)) $$ Ho
  iintro Ho
  rw [pay5_eq]
  simp only [wp_ret]
  imodintro
  iapply Hk
  isplitl [Hg]; · iexact Hg
  isplitl [Ho] <;> iassumption

/-- It is added in; then the same counter-clockwise. -/
theorem part6_spec (v13 v132 v144 : BitVec 32) {Q : PUnit → sProp (MT nD τ sig Unit (Elt F) ℕ UU ℕ)} :
    (iprop(levAts L lv ∗ got m c false 0 ∗ owns (c : Thread nD τ) (outP (back false 1 c) false) fullShare (half false (prod m c (back false 1 c))) ∗ (wait m (some (true, false, 0)) N c ∗ wait m (some (true, true, 0)) N c) ∗ owns (c : Thread nD τ) (outP (back true 1 c) true) fullShare (half true (prod m c (back true 1 c))) ∗ owesE c (rest 5 c)) : sProp 𝕄)
      ⊢ iprop(((got m c false 0 ∗ owns (c : Thread nD τ) (outP (back false 1 c) false) fullShare (acc m false 1 c) ∗ got m c true 0 ∗ owns (c : Thread nD τ) (outP (back true 1 c) true) fullShare (acc m true 1 c) ∗ owesE c (rest 5 c)) -∗ Q ⟨⟩)
        -∗ wp frame (wpE (defs₀ (F := F)) 𝒱₀ (c : Thread nD τ) none) Set.univ
          (k0_part6 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v13 v132 v144 (half false (prod m c (back false 1 c)))) Q) := by
  rw [k0_part6_eq_skeleton]
  unfold k0_part6_skel
  simp only [Prog.lift, Prog.bind_op, Prog.bind_ret, Prog.pure_eq_ret]
  iintro ⟨#Hlev, Hg, Ho, Hg', Ho', HO⟩ Hk
  iapply (wp_load_got m c false 0 0 rfl (by decide) rfl rfl) $$ Hg
  iintro %Y %hY Hg
  iapply (wp_load_out c (back false 1 c) false (off6_eq c).1 (half false (prod m c (back false 1 c)))) $$ Ho
  iintro Ho
  iapply (wp_store_out c (back false 1 c) false (off6_eq c).1 (half false (prod m c (back false 1 c)))) $$ Ho
  rw [pay6_eq _ Y hY, acc_succ m c false 0]
  iintro Ho
  iapply (wp_wait_both m c true 0 5 (by decide) (by decide) rfl rfl (credit_mm true) (credit_slot true 0)) $$ [Hg' HO]
  · isplitr; · iexact Hlev
    isplitl [Hg'] <;> iassumption
  iintro ⟨HO, Hg'⟩
  iapply (wp_load_out c (back true 1 c) true (off7_eq c).1 (half true (prod m c (back true 1 c)))) $$ Ho'
  iintro Ho'
  iapply (wp_load_got m c true 0 0 rfl (by decide) rfl rfl) $$ Hg'
  iintro %Z %hZ Hg'
  iapply (wp_load_out c (back true 1 c) true (off7_eq c).1 (half true (prod m c (back true 1 c)))) $$ Ho'
  iintro Ho'
  iapply (wp_store_out c (back true 1 c) true (off7_eq c).1 (half true (prod m c (back true 1 c)))) $$ Ho'
  rw [pay7_eq _ Z hZ, acc_succ m c true 0]
  iintro Ho'
  simp only [wp_ret]
  imodintro
  iapply Hk
  isplitl [Hg]; · iexact Hg
  isplitl [Ho]; · iexact Ho
  isplitl [Hg']; · iexact Hg'
  isplitl [Ho'] <;> iassumption

/-- The sums travel on: the second sends. -/
theorem part7_spec (v2 v13 v24 v132 v144 : BitVec 32) {Q : BitVec 32 → sProp (MT nD τ sig Unit (Elt F) ℕ UU ℕ)} :
    (iprop(sendRes m c false 1 ∗ sendRes m c true 1 ∗ owesE c (rest 5 c)) : sProp 𝕄)
      ⊢ iprop((∀ r, (wait m (some (false, false, 1)) N c ∗ wait m (some (true, false, 1)) N c ∗ owesE c (rest 4 c)) -∗ Q r)
        -∗ wp frame (wpE (defs₀ (F := F)) 𝒱₀ (c : Thread nD τ) none) Set.univ
          (k0_part7 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v13 v24 v132 v144) Q) := by
  rw [k0_part7_eq_skeleton]
  unfold k0_part7_skel
  simp only [Prog.lift, Prog.bind_op, Prog.bind_ret, Prog.pure_eq_ret]
  iintro ⟨H1, H2, HO⟩ Hk
  iapply (wp_send_both m c 4 1 rfl (dev5_eq c) ((out_slice (back false 1 c) false (off8_eq c).1).trans (src_out false 1 c (by decide)).symm) rfl rfl rfl (dev6_eq c) ((out_slice (back true 1 c) true (off9_eq c).1).trans (src_out true 1 c (by decide)).symm) rfl rfl rfl) $$ [H1 H2 HO]
  · isplitl [H1]; · iexact H1
    isplitl [H2] <;> iassumption
  iintro ⟨H1, H2, HO⟩
  simp only [wp_ret]
  imodintro
  iapply Hk
  isplitl [H1]; · iexact H1
  isplitl [H2] <;> iassumption

/-- The second clockwise half chunk has come; it and the device's own product there are read. -/
theorem part8_spec (v2 v24 v220 : BitVec 32) (V : FVec F S512x1024 .f32) {Q : (Σ' (v232 : BitVec 32) (v248 : FVec F S512x1024 .f32), FVec F S512x1024 .f32) → sProp (MT nD τ sig Unit (Elt F) ℕ UU ℕ)} :
    (iprop(levAts L lv ∗ (wait m (some (false, false, 1)) N c ∗ wait m (some (false, true, 1)) N c) ∗ owns (c : Thread nD τ) (outP (back false 2 c) false) fullShare (V) ∗ owesE c (rest 4 c)) : sProp 𝕄)
      ⊢ iprop((∀ v232, (got m c false 1 ∗ owns (c : Thread nD τ) (outP (back false 2 c) false) fullShare (V) ∗ owesE c (rest 4 c)) -∗ Q ⟨v232, V, acc m false 1 (prv false c)⟩)
        -∗ wp frame (wpE (defs₀ (F := F)) 𝒱₀ (c : Thread nD τ) none) Set.univ
          (k0_part8 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v24 v220) Q) := by
  rw [k0_part8_eq_skeleton]
  unfold k0_part8_skel
  simp only [Prog.lift, Prog.bind_op, Prog.bind_ret, Prog.pure_eq_ret]
  iintro ⟨#Hlev, Hg, Ho, HO⟩ Hk
  iapply (wp_wait_both m c false 1 4 (by decide) (by decide) rfl rfl (credit_slice (back false 1 c) false (off8_eq c).1) (credit_slot false 1)) $$ [Hg HO]
  · isplitr; · iexact Hlev
    isplitl [Hg] <;> iassumption
  iintro ⟨HO, Hg⟩
  iapply (wp_load_out c (back false 2 c) false (off6_eq c).2.1 (V)) $$ Ho
  iintro Ho
  iapply (wp_load_got m c false 1 1 rfl (by decide) rfl rfl) $$ Hg
  iintro %Y %hY Hg
  rw [pay8_eq, pay9_eq Y hY]
  simp only [wp_ret]
  imodintro
  iapply Hk
  isplitl [Hg]; · iexact Hg
  isplitl [Ho] <;> iassumption

/-- It is added in; then the same counter-clockwise. -/
theorem part9_spec (v13 v220 v232 : BitVec 32) {Q : PUnit → sProp (MT nD τ sig Unit (Elt F) ℕ UU ℕ)} :
    (iprop(levAts L lv ∗ owns (c : Thread nD τ) (outP (back false 2 c) false) fullShare (half false (prod m c (back false 2 c))) ∗ (wait m (some (true, false, 1)) N c ∗ wait m (some (true, true, 1)) N c) ∗ owns (c : Thread nD τ) (outP (back true 2 c) true) fullShare (half true (prod m c (back true 2 c))) ∗ owesE c (rest 4 c)) : sProp 𝕄)
      ⊢ iprop(((owns (c : Thread nD τ) (outP (back false 2 c) false) fullShare (acc m false 2 c) ∗ got m c true 1 ∗ owns (c : Thread nD τ) (outP (back true 2 c) true) fullShare (acc m true 2 c) ∗ owesE c (rest 4 c)) -∗ Q ⟨⟩)
        -∗ wp frame (wpE (defs₀ (F := F)) 𝒱₀ (c : Thread nD τ) none) Set.univ
          (k0_part9 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v13 v220 v232 (half false (prod m c (back false 2 c))) (acc m false 1 (prv false c))) Q) := by
  rw [k0_part9_eq_skeleton]
  unfold k0_part9_skel
  simp only [Prog.lift, Prog.bind_op, Prog.bind_ret, Prog.pure_eq_ret]
  iintro ⟨#Hlev, Ho, Hg', Ho', HO⟩ Hk
  iapply (wp_load_out c (back false 2 c) false (off6_eq c).2.1 (half false (prod m c (back false 2 c)))) $$ Ho
  iintro Ho
  iapply (wp_store_out c (back false 2 c) false (off6_eq c).2.1 (half false (prod m c (back false 2 c)))) $$ Ho
  rw [pay10_eq, acc_succ m c false 1]
  iintro Ho
  iapply (wp_wait_both m c true 1 4 (by decide) (by decide) rfl rfl (credit_slice (back true 1 c) true (off9_eq c).1) (credit_slot true 1)) $$ [Hg' HO]
  · isplitr; · iexact Hlev
    isplitl [Hg'] <;> iassumption
  iintro ⟨HO, Hg'⟩
  iapply (wp_load_out c (back true 2 c) true (off7_eq c).2.1 (half true (prod m c (back true 2 c)))) $$ Ho'
  iintro Ho'
  iapply (wp_load_got m c true 1 1 rfl (by decide) rfl rfl) $$ Hg'
  iintro %Z %hZ Hg'
  iapply (wp_load_out c (back true 2 c) true (off7_eq c).2.1 (half true (prod m c (back true 2 c)))) $$ Ho'
  iintro Ho'
  iapply (wp_store_out c (back true 2 c) true (off7_eq c).2.1 (half true (prod m c (back true 2 c)))) $$ Ho'
  rw [pay11_eq, pay7_eq _ Z hZ, acc_succ m c true 1]
  iintro Ho'
  simp only [wp_ret]
  imodintro
  iapply Hk
  isplitl [Ho]; · iexact Ho
  isplitl [Hg']; · iexact Hg'
  isplitl [Ho'] <;> iassumption

/-- The sums travel on: the third sends. -/
theorem part10_spec (v2 v13 v24 : BitVec 32) {Q : (Σ' (v308 : BitVec 32) (v310 : BitVec 32) (c4_i32_250 : BitVec 32), BitVec 32) → sProp (MT nD τ sig Unit (Elt F) ℕ UU ℕ)} :
    (iprop(sendRes m c false 2 ∗ sendRes m c true 2 ∗ owesE c (rest 4 c)) : sProp 𝕄)
      ⊢ iprop((∀ r, (wait m (some (false, false, 2)) N c ∗ wait m (some (true, false, 2)) N c ∗ owesE c (rest 3 c)) -∗ Q r)
        -∗ wp frame (wpE (defs₀ (F := F)) 𝒱₀ (c : Thread nD τ) none) Set.univ
          (k0_part10 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v13 v24) Q) := by
  rw [k0_part10_eq_skeleton]
  unfold k0_part10_skel
  simp only [Prog.lift, Prog.bind_op, Prog.bind_ret, Prog.pure_eq_ret]
  iintro ⟨H1, H2, HO⟩ Hk
  iapply (wp_send_both m c 3 2 rfl (dev7_eq c) ((out_slice (back false 2 c) false (off8_eq c).2).trans (src_out false 2 c (by decide)).symm) rfl rfl rfl (dev8_eq c) ((out_slice (back true 2 c) true (off9_eq c).2).trans (src_out true 2 c (by decide)).symm) rfl rfl rfl) $$ [H1 H2 HO]
  · isplitl [H1]; · iexact H1
    isplitl [H2] <;> iassumption
  iintro ⟨H1, H2, HO⟩
  simp only [wp_ret]
  imodintro
  iapply Hk
  isplitl [H1]; · iexact H1
  isplitl [H2] <;> iassumption

/-- The third clockwise half chunk has come, and is added to the device's own product there. -/
theorem part11_spec (v24 v308 v310 v250 v251 : BitVec 32) {Q : (Σ' (v320 : BitVec 32), FVec F S512x1024 .f32) → sProp (MT nD τ sig Unit (Elt F) ℕ UU ℕ)} :
    (iprop(levAts L lv ∗ (wait m (some (false, false, 2)) N c ∗ wait m (some (false, true, 2)) N c) ∗ owns (c : Thread nD τ) (outP (back false 3 c) false) fullShare (half false (prod m c (back false 3 c))) ∗ owesE c (rest 3 c)) : sProp 𝕄)
      ⊢ iprop((∀ v320, (got m c false 2 ∗ owns (c : Thread nD τ) (outP (back false 3 c) false) fullShare (half false (prod m c (back false 3 c))) ∗ owesE c (rest 3 c)) -∗ Q ⟨v320, acc m false 3 c⟩)
        -∗ wp frame (wpE (defs₀ (F := F)) 𝒱₀ (c : Thread nD τ) none) Set.univ
          (k0_part11 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v24 v308 v310 v250 v251) Q) := by
  rw [k0_part11_eq_skeleton]
  unfold k0_part11_skel
  simp only [Prog.lift, Prog.bind_op, Prog.bind_ret, Prog.pure_eq_ret]
  iintro ⟨#Hlev, Hg, Ho, HO⟩ Hk
  iapply (wp_wait_both m c false 2 3 (by decide) (by decide) rfl rfl (credit_slice (back false 2 c) false (off8_eq c).2) (credit_slot false 2)) $$ [Hg HO]
  · isplitr; · iexact Hlev
    isplitl [Hg] <;> iassumption
  iintro ⟨HO, Hg⟩
  iapply (wp_load_out c (back false 3 c) false (off6_eq c).2.2 (half false (prod m c (back false 3 c)))) $$ Ho
  iintro Ho
  iapply (wp_load_got m c false 2 2 rfl (by decide) rfl rfl) $$ Hg
  iintro %Y %hY Hg
  iapply (wp_load_out c (back false 3 c) false (off6_eq c).2.2 (half false (prod m c (back false 3 c)))) $$ Ho
  iintro Ho
  rw [pay12_eq, pay7_eq _ Y hY, acc_succ m c false 2]
  simp only [wp_ret]
  imodintro
  iapply Hk
  isplitl [Hg]; · iexact Hg
  isplitl [Ho] <;> iassumption

/-- The sum is stored; then the same counter-clockwise. -/
theorem part12_spec (v2 v13 v320 : BitVec 32) {Q : (Σ' (v367 : BitVec 32) (v368 : BitVec 32) (v369 : BitVec 1), BitVec 1) → sProp (MT nD τ sig Unit (Elt F) ℕ UU ℕ)} :
    (iprop(levAts L lv ∗ owns (c : Thread nD τ) (outP (back false 3 c) false) fullShare (half false (prod m c (back false 3 c))) ∗ (wait m (some (true, false, 2)) N c ∗ wait m (some (true, true, 2)) N c) ∗ owns (c : Thread nD τ) (outP (back true 3 c) true) fullShare (half true (prod m c (back true 3 c))) ∗ owesE c (rest 3 c)) : sProp 𝕄)
      ⊢ iprop((∀ r, (owns (c : Thread nD τ) (outP (back false 3 c) false) fullShare (acc m false 3 c) ∗ got m c true 2 ∗ owns (c : Thread nD τ) (outP (back true 3 c) true) fullShare (acc m true 3 c) ∗ owesE c (rest 3 c)) -∗ Q r)
        -∗ wp frame (wpE (defs₀ (F := F)) 𝒱₀ (c : Thread nD τ) none) Set.univ
          (k0_part12 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v13 v320 (acc m false 3 c)) Q) := by
  rw [k0_part12_eq_skeleton]
  unfold k0_part12_skel
  simp only [Prog.lift, Prog.bind_op, Prog.bind_ret, Prog.pure_eq_ret]
  iintro ⟨#Hlev, Ho, Hg', Ho', HO⟩ Hk
  iapply (wp_store_out c (back false 3 c) false (off6_eq c).2.2 (half false (prod m c (back false 3 c)))) $$ Ho
  iintro Ho
  iapply (wp_wait_both m c true 2 3 (by decide) (by decide) rfl rfl (credit_slice (back true 2 c) true (off9_eq c).2) (credit_slot true 2)) $$ [Hg' HO]
  · isplitr; · iexact Hlev
    isplitl [Hg'] <;> iassumption
  iintro ⟨HO, Hg'⟩
  iapply (wp_load_out c (back true 3 c) true (off7_eq c).2.2 (half true (prod m c (back true 3 c)))) $$ Ho'
  iintro Ho'
  iapply (wp_load_got m c true 2 2 rfl (by decide) rfl rfl) $$ Hg'
  iintro %Z %hZ Hg'
  iapply (wp_load_out c (back true 3 c) true (off7_eq c).2.2 (half true (prod m c (back true 3 c)))) $$ Ho'
  iintro Ho'
  iapply (wp_store_out c (back true 3 c) true (off7_eq c).2.2 (half true (prod m c (back true 3 c)))) $$ Ho'
  rw [pay13_eq, pay7_eq _ Z hZ, acc_succ m c true 2]
  iintro Ho'
  simp only [wp_ret]
  imodintro
  iapply Hk
  isplitl [Ho]; · iexact Ho
  isplitl [Hg']; · iexact Hg'
  isplitl [Ho'] <;> iassumption

/-- The clockwise sum, now of all devices, is finished; the other is read. -/
theorem part13_spec (v2 v367 v368 : BitVec 32) (v369 v370 : BitVec 1) {Q : (Σ' (v386 : BitVec 32) (v410 : FVec F S512x1024 .f32), F .f32) → sProp (MT nD τ sig Unit (Elt F) ℕ UU ℕ)} :
    (iprop(owns (c : Thread nD τ) (outP (back false 3 c) false) fullShare (acc m false 3 c) ∗ owns (c : Thread nD τ) (outP (back true 3 c) true) fullShare (acc m true 3 c)) : sProp 𝕄)
      ⊢ iprop((∀ v386, (owns (c : Thread nD τ) (outP (back false 3 c) false) fullShare (fin m false c) ∗ owns (c : Thread nD τ) (outP (back true 3 c) true) fullShare (acc m true 3 c)) -∗ Q ⟨v386, acc m true 3 c, Scalar.ofBits .f32 0x3F000000#32⟩)
        -∗ wp frame (wpE (defs₀ (F := F)) 𝒱₀ (c : Thread nD τ) none) Set.univ
          (k0_part13 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v367 v368 v369 v370) Q) := by
  rw [k0_part13_eq_skeleton]
  unfold k0_part13_skel
  simp only [Prog.lift, Prog.bind_op, Prog.bind_ret, Prog.pure_eq_ret]
  iintro ⟨Ho, Ho'⟩ Hk
  iapply (wp_load_out c (back false 3 c) false (off10_eq c) (acc m false 3 c)) $$ Ho
  iintro Ho
  iapply (wp_load_out c (back false 3 c) false (off10_eq c) (acc m false 3 c)) $$ Ho
  iintro Ho
  iapply (wp_store_out c (back false 3 c) false (off10_eq c) (acc m false 3 c)) $$ Ho
  rw [show k0_pay14 (acc m false 3 c) = fin m false c from rfl]
  iintro Ho
  iapply (wp_load_out c (back true 3 c) true (off11_eq c) (acc m true 3 c)) $$ Ho'
  iintro Ho'
  rw [pay15_eq]
  simp only [wp_ret]
  imodintro
  iapply Hk
  isplitl [Ho] <;> iassumption

/-- The counter-clockwise sum is finished. -/
theorem part14_spec (v2 v386 : BitVec 32) {Q : (Σ' (v438 : BitVec 32) (v442 : BitVec 32) (v443 : BitVec 32), BitVec 1) → sProp (MT nD τ sig Unit (Elt F) ℕ UU ℕ)} :
    (iprop(owns (c : Thread nD τ) (outP (back true 3 c) true) fullShare (acc m true 3 c)) : sProp 𝕄)
      ⊢ iprop((∀ r, owns (c : Thread nD τ) (outP (back true 3 c) true) fullShare (fin m true c) -∗ Q r)
        -∗ wp frame (wpE (defs₀ (F := F)) 𝒱₀ (c : Thread nD τ) none) Set.univ
          (k0_part14 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v386 (acc m true 3 c) (Scalar.ofBits .f32 0x3F000000#32)) Q) := by
  rw [k0_part14_eq_skeleton]
  unfold k0_part14_skel
  simp only [Prog.lift, Prog.bind_op, Prog.bind_ret, Prog.pure_eq_ret]
  iintro Ho Hk
  iapply (wp_load_out c (back true 3 c) true (off11_eq c) (acc m true 3 c)) $$ Ho
  iintro Ho
  iapply (wp_store_out c (back true 3 c) true (off11_eq c) (acc m true 3 c)) $$ Ho
  rw [pay16_eq, show k0_pay14 (acc m true 3 c) = fin m true c from rfl]
  iintro Ho
  simp only [wp_ret]
  imodintro
  iapply Hk
  iexact Ho

end Cert.KernelIdeal.Ring

end
-- ==== Proof.Spread.lean ====
/-
# The three passing-on steps

What the last parts of the kernel's body do on a device: the finished half chunks are passed on until every device has
them all.
-/
module

public import proofs.«01_k».proof.Proof.Sums

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

section
variable {α : Type} {Q : α → sProp (MT nD τ sig Unit (Elt F) ℕ UU ℕ)}

/-- Both sends of a passing-on step, and the wait for the first of them. -/
theorem wp_pass (k' : ℕ) (s : Fin 6) (hs : Fin.ofNat 6 (5 - k') = s) (h3 : ¬ s.val < 3) (hk : k' ≤ 6) {n₁ n₂ : Dev nD}
    (hn₁ : n₁ = nxt false c) (hn₂ : n₂ = nxt true c)
    {a b : Fin 2 → Nat} {ha : ∀ i, a i + S512x1024.size i ≤ S2048x2048.size i} {hb : ∀ i, b i + S512x1024.size i ≤ S2048x2048.size i}
    (hae : a = pOff (back false s.val c) false) (hbe : b = pOff (back true s.val c) true)
    {qS₁ qR₁ qS₂ qR₂ q : DmaSem sig}
    (hqS₁ : qS₁ = sendS false s) (hqR₁ : qR₁ = recvS false s) (hqS₂ : qS₂ = sendS true s) (hqR₂ : qR₂ = recvS true s) (hq : q = sendS false s)
    {hsc₁ : (outM.slice (Rect.unit (s := S2048x2048) a S512x1024.size ha) (fun _ => rfl)).view.ref.isScScratch = false}
    {hsrc₁ hdst₁ hsrc hdst : (outM.slice (Rect.unit (s := S2048x2048) a S512x1024.size ha) (fun _ => rfl)).view.WordExact}
    {hsem₁ : DmaTarget.Typed .vmem (.dma qR₁) (.remote (Dev.tc n₁ : Thread nD τ) (outM.slice (Rect.unit (s := S2048x2048) a S512x1024.size ha) (fun _ => rfl)) (.dma qS₁) hsc₁)}
    {hsc₂ : (outM.slice (Rect.unit (s := S2048x2048) b S512x1024.size hb) (fun _ => rfl)).view.ref.isScScratch = false}
    {hsrc₂ hdst₂ : (outM.slice (Rect.unit (s := S2048x2048) b S512x1024.size hb) (fun _ => rfl)).view.WordExact}
    {hsem₂ : DmaTarget.Typed .vmem (.dma qR₂) (.remote (Dev.tc n₂ : Thread nD τ) (outM.slice (Rect.unit (s := S2048x2048) b S512x1024.size hb) (fun _ => rfl)) (.dma qS₂) hsc₂)}
    {k : PUnit → Prog (TpuEff nD τ sig (Elt F) Λ₀ .tc) α} :
    (iprop(levAts L lv ∗ sendRes m c false s ∗ sendRes m c true s ∗ owesE c (rest (k' + 1) c)) : sProp 𝕄)
      ⊢ iprop(((zero (some (false, false, s)) c ∗ owns (c : Thread nD τ) (src false s c) fullShare (sent m false s.val c)
            ∗ wait m (some (true, false, s)) N c ∗ owesE c (rest k' c))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (outM.slice (Rect.unit (s := S2048x2048) a S512x1024.size ha) (fun _ => rfl))
              (.remote (Dev.tc n₁) (outM.slice (Rect.unit (s := S2048x2048) a S512x1024.size ha) (fun _ => rfl)) (.dma qS₁) hsc₁) (.dma qR₁) hsrc₁ hdst₁ hsem₁) fun _ =>
            .op (.enqueueDma (outM.slice (Rect.unit (s := S2048x2048) b S512x1024.size hb) (fun _ => rfl))
              (.remote (Dev.tc n₂) (outM.slice (Rect.unit (s := S2048x2048) b S512x1024.size hb) (fun _ => rfl)) (.dma qS₂) hsc₂) (.dma qR₂) hsrc₂ hdst₂ hsem₂) fun _ =>
            .op (.waitDma2 q (outM.slice (Rect.unit (s := S2048x2048) a S512x1024.size ha) (fun _ => rfl))
              (outM.slice (Rect.unit (s := S2048x2048) a S512x1024.size ha) (fun _ => rfl)) hsrc hdst) k) Q) := by
  have h0 : s.val ≠ 0 := by omega
  have hA := out_slice (back false s.val c) false (ha := ha) hae
  have hB := out_slice (back true s.val c) true (ha := hb) hbe
  iintro ⟨#Hlev, H1, H2, HO⟩ Hk
  iapply (wp_send_both m c k' s hs hn₁ (hA.trans (src_out false s c h0).symm) (hA.trans (dst_out false s c h3).symm) hqS₁ hqR₁
    hn₂ (hB.trans (src_out true s c h0).symm) (hB.trans (dst_out true s c h3).symm) hqS₂ hqR₂) $$ [H1 H2 HO]
  · isplitl [H1]; · iexact H1
    isplitl [H2] <;> iassumption
  iintro ⟨H1, H2, HO⟩
  iapply (wp_wait_send m c false s hq (credit_slice _ _ hae) (rest k' c) (above_rest c k' 0 hk (by omega))) $$ [H1 HO]
  · isplitr; · iexact Hlev
    isplitl [H1] <;> iassumption
  iintro ⟨HO, Hz, Hs⟩
  iapply Hk
  isplitl [Hz]; · iexact Hz
  isplitl [Hs]; · iexact Hs
  isplitl [H2] <;> iassumption

/-- The other three waits of a passing-on step. -/
theorem wp_pass_waits (k' : ℕ) (s : Fin 6) (hk : k' ≤ 6) (hs : s.val + 2 + k' ≤ 7)
    {a b : Fin 2 → Nat} {ha : ∀ i, a i + S512x1024.size i ≤ S2048x2048.size i} {hb : ∀ i, b i + S512x1024.size i ≤ S2048x2048.size i}
    (hae : a = pOff (back false s.val c) false) (hbe : b = pOff (back true s.val c) true)
    {q₁ q₂ q₃ : DmaSem sig} (hq₁ : q₁ = recvS false s) (hq₂ : q₂ = sendS true s) (hq₃ : q₃ = recvS true s)
    {hsrc₁ hdst₁ : (outM.slice (Rect.unit (s := S2048x2048) a S512x1024.size ha) (fun _ => rfl)).view.WordExact}
    {hsrc₂ hdst₂ hsrc₃ hdst₃ : (outM.slice (Rect.unit (s := S2048x2048) b S512x1024.size hb) (fun _ => rfl)).view.WordExact}
    {k : PUnit → Prog (TpuEff nD τ sig (Elt F) Λ₀ .tc) α} :
    (iprop(levAts L lv ∗ (zero (some (false, false, s)) c ∗ owns (c : Thread nD τ) (src false s c) fullShare (sent m false s.val c)
        ∗ wait m (some (false, true, s)) N c) ∗ (wait m (some (true, false, s)) N c ∗ wait m (some (true, true, s)) N c) ∗ owesE c (rest k' c)) : sProp 𝕄)
      ⊢ iprop(((got m c false s ∗ got m c true s ∗ owesE c (rest k' c))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 q₁ (outM.slice (Rect.unit (s := S2048x2048) a S512x1024.size ha) (fun _ => rfl))
              (outM.slice (Rect.unit (s := S2048x2048) a S512x1024.size ha) (fun _ => rfl)) hsrc₁ hdst₁) fun _ =>
            .op (.waitDma2 q₂ (outM.slice (Rect.unit (s := S2048x2048) b S512x1024.size hb) (fun _ => rfl))
              (outM.slice (Rect.unit (s := S2048x2048) b S512x1024.size hb) (fun _ => rfl)) hsrc₂ hdst₂) fun _ =>
            .op (.waitDma2 q₃ (outM.slice (Rect.unit (s := S2048x2048) b S512x1024.size hb) (fun _ => rfl))
              (outM.slice (Rect.unit (s := S2048x2048) b S512x1024.size hb) (fun _ => rfl)) hsrc₃ hdst₃) k) Q) := by
  iintro ⟨#Hlev, ⟨Hz, Hs, H1⟩, H2, HO⟩ Hk
  iapply (wp_wait_recv m c false s hq₁ (credit_slice _ _ hae) (rest k' c) (above_rest c k' (s.val + 2) hk hs)) $$ [H1 HO]
  · isplitr; · iexact Hlev
    isplitl [H1] <;> iassumption
  iintro ⟨HO, Hz', Hd, Hx⟩
  iapply (wp_wait_both m c true s k' hk hs hq₂ hq₃ (credit_slice _ _ hbe) (credit_slice _ _ hbe)) $$ [H2 HO]
  · isplitr; · iexact Hlev
    isplitl [H2] <;> iassumption
  iintro ⟨HO, H2⟩
  iapply Hk
  isplitl [Hz Hs Hz' Hd Hx]
  · unfold got
    isplitl [Hz Hz']
    · isplitl [Hz] <;> iassumption
    isplitl [Hs]; · iexact Hs
    isplitl [Hd] <;> iassumption
  isplitl [H2] <;> iassumption
end

/-- The finished half chunks are sent on. -/
theorem part15_spec (v13 v24 v438 v442 v443 : BitVec 32) (v448 : BitVec 1) {Q : PUnit → sProp (MT nD τ sig Unit (Elt F) ℕ UU ℕ)} :
    (iprop(levAts L lv ∗ sendRes m c false 3 ∗ sendRes m c true 3 ∗ owesE c (rest 3 c)) : sProp 𝕄)
      ⊢ iprop(((zero (some (false, false, 3)) c ∗ owns (c : Thread nD τ) (src false 3 c) fullShare (sent m false 3 c) ∗ wait m (some (true, false, 3)) N c ∗ owesE c (rest 2 c)) -∗ Q ⟨⟩)
        -∗ wp frame (wpE (defs₀ (F := F)) 𝒱₀ (c : Thread nD τ) none) Set.univ
          (k0_part15 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v13 v24 v438 v442 v443 v448) Q) := by
  rw [k0_part15_eq_skeleton]
  unfold k0_part15_skel
  simp only [Prog.lift, Prog.bind_op, Prog.bind_ret, Prog.pure_eq_ret]
  iintro H Hk
  iapply (wp_pass m c 2 3 rfl (by decide) (by decide) (dev9_eq c) (dev10_eq c) (off12_eq c).1 (off13_eq c).1 rfl rfl rfl rfl rfl) $$ H
  iintro H
  simp only [wp_ret]
  imodintro
  iapply Hk
  iexact H

/-- The neighbours' have come. -/
theorem part16_spec (v2 v13 : BitVec 32) {Q : (Σ' (v502 : BitVec 32) (v506 : BitVec 32) (v507 : BitVec 32) (v508 : BitVec 1), BitVec 1) → sProp (MT nD τ sig Unit (Elt F) ℕ UU ℕ)} :
    (iprop(levAts L lv ∗ (zero (some (false, false, 3)) c ∗ owns (c : Thread nD τ) (src false 3 c) fullShare (sent m false 3 c) ∗ wait m (some (false, true, 3)) N c) ∗ (wait m (some (true, false, 3)) N c ∗ wait m (some (true, true, 3)) N c) ∗ owesE c (rest 2 c)) : sProp 𝕄)
      ⊢ iprop((∀ r, (got m c false 3 ∗ got m c true 3 ∗ owesE c (rest 2 c)) -∗ Q r)
        -∗ wp frame (wpE (defs₀ (F := F)) 𝒱₀ (c : Thread nD τ) none) Set.univ
          (k0_part16 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v13) Q) := by
  rw [k0_part16_eq_skeleton]
  unfold k0_part16_skel
  simp only [Prog.lift, Prog.bind_op, Prog.bind_ret, Prog.pure_eq_ret]
  iintro H Hk
  iapply (wp_pass_waits m c 2 3 (by decide) (by decide) (off12_eq c).1 (off13_eq c).1 rfl rfl rfl) $$ [H]
  · iexact H
  iintro H
  simp only [wp_ret]
  imodintro
  iapply Hk
  iexact H

/-- They are sent on. -/
theorem part17_spec (v13 v24 v502 v506 v507 : BitVec 32) (v508 v509 : BitVec 1) {Q : PUnit → sProp (MT nD τ sig Unit (Elt F) ℕ UU ℕ)} :
    (iprop(levAts L lv ∗ sendRes m c false 4 ∗ sendRes m c true 4 ∗ owesE c (rest 2 c)) : sProp 𝕄)
      ⊢ iprop(((zero (some (false, false, 4)) c ∗ owns (c : Thread nD τ) (src false 4 c) fullShare (sent m false 4 c) ∗ wait m (some (true, false, 4)) N c ∗ owesE c (rest 1 c)) -∗ Q ⟨⟩)
        -∗ wp frame (wpE (defs₀ (F := F)) 𝒱₀ (c : Thread nD τ) none) Set.univ
          (k0_part17 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v13 v24 v502 v506 v507 v508 v509) Q) := by
  rw [k0_part17_eq_skeleton]
  unfold k0_part17_skel
  simp only [Prog.lift, Prog.bind_op, Prog.bind_ret, Prog.pure_eq_ret]
  iintro H Hk
  iapply (wp_pass m c 1 4 rfl (by decide) (by decide) (dev11_eq c) (dev12_eq c) (off12_eq c).2.1 (off13_eq c).2.1 rfl rfl rfl rfl rfl) $$ H
  iintro H
  simp only [wp_ret]
  imodintro
  iapply Hk
  iexact H

/-- Those of the devices two places away have come. -/
theorem part18_spec (v2 v13 : BitVec 32) {Q : (Σ' (v566 : BitVec 32) (v570 : BitVec 32), BitVec 32) → sProp (MT nD τ sig Unit (Elt F) ℕ UU ℕ)} :
    (iprop(levAts L lv ∗ (zero (some (false, false, 4)) c ∗ owns (c : Thread nD τ) (src false 4 c) fullShare (sent m false 4 c) ∗ wait m (some (false, true, 4)) N c) ∗ (wait m (some (true, false, 4)) N c ∗ wait m (some (true, true, 4)) N c) ∗ owesE c (rest 1 c)) : sProp 𝕄)
      ⊢ iprop((∀ r, (got m c false 4 ∗ got m c true 4 ∗ owesE c (rest 1 c)) -∗ Q r)
        -∗ wp frame (wpE (defs₀ (F := F)) 𝒱₀ (c : Thread nD τ) none) Set.univ
          (k0_part18 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v2 v13) Q) := by
  rw [k0_part18_eq_skeleton]
  unfold k0_part18_skel
  simp only [Prog.lift, Prog.bind_op, Prog.bind_ret, Prog.pure_eq_ret]
  iintro H Hk
  iapply (wp_pass_waits m c 1 4 (by decide) (by decide) (off12_eq c).2.1 (off13_eq c).2.1 rfl rfl rfl) $$ [H]
  · iexact H
  iintro H
  simp only [wp_ret]
  imodintro
  iapply Hk
  iexact H

/-- They are sent on. -/
theorem part19_spec (v13 v24 v566 v570 v571 : BitVec 32) {Q : PUnit → sProp (MT nD τ sig Unit (Elt F) ℕ UU ℕ)} :
    (iprop(levAts L lv ∗ sendRes m c false 5 ∗ sendRes m c true 5 ∗ owesE c (rest 1 c)) : sProp 𝕄)
      ⊢ iprop(((zero (some (false, false, 5)) c ∗ owns (c : Thread nD τ) (src false 5 c) fullShare (sent m false 5 c) ∗ wait m (some (true, false, 5)) N c ∗ owesE c (rest 0 c)) -∗ Q ⟨⟩)
        -∗ wp frame (wpE (defs₀ (F := F)) 𝒱₀ (c : Thread nD τ) none) Set.univ
          (k0_part19 (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6 c v13 v24 v566 v570 v571) Q) := by
  rw [k0_part19_eq_skeleton]
  unfold k0_part19_skel
  simp only [Prog.lift, Prog.bind_op, Prog.bind_ret, Prog.pure_eq_ret]
  iintro H Hk
  iapply (wp_pass m c 0 5 rfl (by decide) (by decide) (dev13_eq c) (dev14_eq c) (off12_eq c).2.2 (off13_eq c).2.2 rfl rfl rfl rfl rfl) $$ H
  iintro H
  simp only [wp_ret]
  imodintro
  iapply Hk
  iexact H

end Cert.KernelIdeal.Ring

end
-- ==== Proof.Moves.lean ====
/-
# How pieces change hands between the parts

What a device gives its neighbours at the barrier, what each send is made of, and what the device has at the end.
-/
module

public import proofs.«01_k».proof.Proof.Spread

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The barrier -/

/-- A neighbour is given the slots of its direction's receive buffer here, and the chunk of this device's own number. -/
theorem give_bar (e : Bool) (X : S512x1024.Idx → Elt F .f32) :
    (iprop((anySlot c e 0 ∗ anySlot c e 1 ∗ anySlot c e 2) ∗ owns (c : Thread nD τ) (outP c e) fullShare X) : sProp 𝕄) ⊢ barPay e (prv e c) := by
  have hs : ∀ s : Fin 6, ∀ h : s.val < 3, (anySlot c e ⟨s.val, h⟩ : sProp 𝕄) ⊢ room e s (prv e c) := by
    intro s h
    unfold anySlot room
    rw [nxt_prv, dst_slot e s _ h]
  have h3 : (owns (c : Thread nD τ) (outP c e) fullShare X : sProp 𝕄) ⊢ room e 3 (prv e c) := by
    unfold room
    rw [nxt_prv, dst_out e 3 _ (by decide), back_add, show (3 : Fin 6).val + 1 = 0 + 4 from rfl, back_four, back_zero]
    iintro H
    iexists X
    iexact H
  unfold barPay
  iintro ⟨⟨H0, H1, H2⟩, H3⟩
  isplitl [H0]; · iapply (hs 0 (by decide)); iexact H0
  isplitl [H1]; · iapply (hs 1 (by decide)); iexact H1
  isplitl [H2]; · iapply (hs 2 (by decide)); iexact H2
  iapply h3; iexact H3

/-- The chunks of the result's buffer, around the ring from the device's own, whose halves are apart. -/
theorem out_split (X : S2048x2048.Idx → Elt F .f32) :
    (owns (c : Thread nD τ) outM fullShare X : sProp 𝕄)
      ⊢ iprop((∃ Y, owns (c : Thread nD τ) (outP c false) fullShare Y) ∗ (∃ Y, owns (c : Thread nD τ) (outP c true) fullShare Y)
        ∗ (∃ Y, owns (c : Thread nD τ) (outRow (back false 1 c)) fullShare Y) ∗ (∃ Y, owns (c : Thread nD τ) (outRow (back false 2 c)) fullShare Y)
        ∗ (∃ Y, owns (c : Thread nD τ) (outRow (back false 3 c)) fullShare Y)) := by
  refine (out_rows c X).trans ?_
  rw [around false c]
  iintro ⟨H0, H1, H2, H3⟩
  ihave H0 := (outRow_split c c _) $$ H0
  icases H0 with ⟨Ha, Hb⟩
  isplitl [Ha]; · iexists _; iexact Ha
  isplitl [Hb]; · iexists _; iexact Hb
  isplitl [H1]; · iexists _; iexact H1
  isplitl [H2]; · iexists _; iexact H2
  iexists _; iexact H3

/-- The device's partial product at half `e` of the chunk `k` places behind. -/
def part (e : Bool) (k : ℕ) : sProp 𝕄 := owns (c : Thread nD τ) (outP (back e k c) e) fullShare (half e (prod m c (back e k c)))

/-- Three chunks of products, as their halves by direction. -/
theorem parts_split :
    (iprop(owns (c : Thread nD τ) (outRow (back false 1 c)) fullShare (prod m c (back false 1 c))
        ∗ owns (c : Thread nD τ) (outRow (back false 2 c)) fullShare (prod m c (back false 2 c))
        ∗ owns (c : Thread nD τ) (outRow (back false 3 c)) fullShare (prod m c (back false 3 c))) : sProp 𝕄)
      ⊢ iprop((part m c false 1 ∗ part m c false 2 ∗ part m c false 3) ∗ (part m c true 1 ∗ part m c true 2 ∗ part m c true 3)) := by
  have h1 : back true 1 c = back false 3 c := by revert c; decide
  have h2 : back true 2 c = back false 2 c := by revert c; decide
  have h3 : back true 3 c = back false 1 c := by revert c; decide
  unfold part
  rw [h1, h2, h3]
  iintro ⟨H1, H2, H3⟩
  ihave H1 := (outRow_split c _ _) $$ H1
  ihave H2 := (outRow_split c _ _) $$ H2
  ihave H3 := (outRow_split c _ _) $$ H3
  icases H1 with ⟨Ha1, Hb1⟩
  icases H2 with ⟨Ha2, Hb2⟩
  icases H3 with ⟨Ha3, Hb3⟩
  isplitl [Ha1 Ha2 Ha3]
  · isplitl [Ha1]; · iexact Ha1
    isplitl [Ha2] <;> iassumption
  isplitl [Hb3]; · iexact Hb3
  isplitl [Hb2] <;> iassumption

/-! ## Sends -/

/-- The right to send in step `s` of direction `e`, and to wait for that. -/
def may (e : Bool) (s : Fin 6) : sProp 𝕄 := iprop(sendPk m e s c ∗ waitPk m (some (e, false, s)) c)

/-- The sum gathered by step `s`, where it is sent from. -/
theorem src_acc (e : Bool) (s : Fin 6) (h0 : s.val ≠ 0) (h3 : s.val < 3) :
    (owns (c : Thread nD τ) (outP (back e s.val c) e) fullShare (acc m e s.val c) : sProp 𝕄) ⊢ owns (c : Thread nD τ) (src e s c) fullShare (sent m e s.val c) := by
  rw [src_out e s c h0, sent_of_lt m e h3]
/-- The finished half chunk, where it is sent from. -/
theorem src_fin (e : Bool) :
    (owns (c : Thread nD τ) (outP (back e 3 c) e) fullShare (fin m e c) : sProp 𝕄) ⊢ owns (c : Thread nD τ) (src e 3 c) fullShare (sent m e (3 : Fin 6).val c) := by
  rw [src_out e 3 c (by decide), show (3 : Fin 6).val = 3 from rfl, sent_three]
/-- What has come in a passing-on step is what the next one sends. -/
theorem src_pass (e : Bool) (s t : Fin 6) (h3 : 3 ≤ s.val) (ht : t.val = s.val + 1) :
    (owns (c : Thread nD τ) (dst e s (prv e c)) fullShare (sent m e s.val (prv e c)) : sProp 𝕄) ⊢ owns (c : Thread nD τ) (src e t c) fullShare (sent m e t.val c) := by
  rw [src_out e t c (by omega), dst_out e s _ (by omega), back_add, ht, sent_succ m e h3]
/-- A piece that has been sent on is lent to the neighbour it came from, for the other direction. -/
theorem lend (e e' : Bool) (s t : Fin 6) (he : e' = !e) (hs : s.val = 2 ∨ s.val = 3) (ht : t.val + 1 = s.val) (X : S512x1024.Idx → Elt F .f32) :
    (owns (c : Thread nD τ) (src e' t c) fullShare X : sProp 𝕄) ⊢ extra e s (nxt e c) := by
  subst he
  have hv : (s + 2).val = s.val + 2 := by
    rw [Fin.val_add, show (2 : Fin 6).val = 2 from rfl, Nat.mod_eq_of_lt (by omega)]
  have hb : back (!e) (s.val + 2) (nxt e c) = back (!e) t.val c := by
    rw [← prv_not, back_add, show s.val + 2 + 1 = t.val + 4 by omega, back_four]
  unfold extra
  rw [if_pos hs]
  unfold room
  rw [nxt_not, src_out _ t c (by omega), dst_out _ (s + 2) _ (by omega), hv, hb]
  iintro H
  iexists X
  iexact H
theorem extra_none (e : Bool) (s : Fin 6) (c' : Dev nD) (h : ¬ (s.val = 2 ∨ s.val = 3)) : (extra e s c' : sProp 𝕄) = iprop(emp) := if_neg h

/-- What each send is made of. -/
theorem send_of (e : Bool) (s : Fin 6) (S : sProp 𝕄) (hS : S ⊢ owns (c : Thread nD τ) (src e s c) fullShare (sent m e s.val c))
    (X : sProp 𝕄) (hX : X ⊢ extra e s (nxt e c)) : (iprop(may m c e s ∗ S ∗ room e s c ∗ X) : sProp 𝕄) ⊢ sendRes m c e s := by
  unfold may sendRes
  iintro ⟨⟨H1, H2⟩, H3, H4, H5⟩
  isplitl [H1]; · iexact H1
  isplitl [H2]; · iexact H2
  isplitl [H3]; · iapply hS; iexact H3
  isplitl [H4]; · iexact H4
  iapply hX; iexact H5

theorem send_one (e : Bool) :
    (iprop(may m c e 1 ∗ owns (c : Thread nD τ) (outP (back e 1 c) e) fullShare (acc m e 1 c) ∗ room e 1 c) : sProp 𝕄) ⊢ sendRes m c e 1 := by
  refine BIBase.Entails.trans ?_ (send_of m c e 1 _ (src_acc m c e 1 (by decide) (by decide)) iprop(emp) (BIBase.Entails.of_eq (extra_none e 1 _ (by decide)).symm))
  iintro ⟨H1, H2, H3⟩
  isplitl [H1]; · iexact H1
  isplitl [H2]; · iexact H2
  isplitl [H3]; · iexact H3
  iempintro
theorem send_two (e e' : Bool) (he : e' = !e) (X : S512x1024.Idx → Elt F .f32) :
    (iprop(may m c e 2 ∗ owns (c : Thread nD τ) (outP (back e 2 c) e) fullShare (acc m e 2 c) ∗ room e 2 c ∗ owns (c : Thread nD τ) (src e' 1 c) fullShare X) : sProp 𝕄)
      ⊢ sendRes m c e 2 :=
  send_of m c e 2 _ (src_acc m c e 2 (by decide) (by decide)) _ (lend c e e' 2 1 he (Or.inl rfl) rfl X)
theorem send_three (e e' : Bool) (he : e' = !e) (X : S512x1024.Idx → Elt F .f32) :
    (iprop(may m c e 3 ∗ owns (c : Thread nD τ) (outP (back e 3 c) e) fullShare (fin m e c) ∗ room e 3 c ∗ owns (c : Thread nD τ) (src e' 2 c) fullShare X) : sProp 𝕄)
      ⊢ sendRes m c e 3 :=
  send_of m c e 3 _ (src_fin m c e) _ (lend c e e' 3 2 he (Or.inr rfl) rfl X)
theorem send_pass (e : Bool) (s t : Fin 6) (h3 : 3 ≤ s.val) (ht : t.val = s.val + 1) :
    (iprop(may m c e t ∗ owns (c : Thread nD τ) (dst e s (prv e c)) fullShare (sent m e s.val (prv e c)) ∗ room e t c) : sProp 𝕄) ⊢ sendRes m c e t := by
  refine BIBase.Entails.trans ?_ (send_of m c e t _ (src_pass m c e s t h3 ht) iprop(emp) (BIBase.Entails.of_eq (extra_none e t _ (by omega)).symm))
  iintro ⟨H1, H2, H3⟩
  isplitl [H1]; · iexact H1
  isplitl [H2]; · iexact H2
  isplitl [H3]; · iexact H3
  iempintro

/-- The place lent back at a receive of step 2 or 3. -/
theorem lent (e e' : Bool) (s t : Fin 6) (he : e' = !e) (hs : s.val = 2 ∨ s.val = 3) (ht : t = s + 2) : (extra e s c : sProp 𝕄) ⊢ room e' t c := by
  subst he ht
  unfold extra
  rw [if_pos hs]

/-! ## The end -/

/-- The last four pieces of a direction are all of its finished chunks. -/
theorem all_done (e : Bool) :
    (iprop(owns (c : Thread nD τ) (src e 3 c) fullShare (sent m e (3 : Fin 6).val c) ∗ owns (c : Thread nD τ) (src e 4 c) fullShare (sent m e (4 : Fin 6).val c)
        ∗ owns (c : Thread nD τ) (src e 5 c) fullShare (sent m e (5 : Fin 6).val c)
        ∗ owns (c : Thread nD τ) (dst e 5 (prv e c)) fullShare (sent m e (5 : Fin 6).val (prv e c))) : sProp 𝕄)
      ⊢ bigSep Finset.univ (done m c e) := by
  have h : ∀ (k : ℕ) (hk : 3 ≤ k) (j : Dev nD), back e k c = j →
      (owns (c : Thread nD τ) (outP (back e k c) e) fullShare (sent m e k c) : sProp 𝕄) ⊢ done m c e j := by
    intro k hk j hj
    subst hj
    have hp : prv e (back e k c) = back e (k - 3) c := by
      refine (back_add e 1 k c).trans ?_
      rw [show 1 + k = k - 3 + 4 by omega, back_four]
    unfold done sent
    rw [if_neg (by omega), hp]
  rw [around e c]
  rw [src_out e 3 c (by decide), src_out e 4 c (by decide), src_out e 5 c (by decide), dst_out e 5 _ (by decide), back_add,
    show (sent m e (5 : Fin 6).val (prv e c)) = sent m e 6 c from (sent_succ m e (by decide) c).symm]
  iintro ⟨H3, H4, H5, H6⟩
  isplitl [H4]; · iapply (h 4 (by decide) c ((back_four e 0 c).trans (back_zero e c))); iexact H4
  isplitl [H5]; · iapply (h 5 (by decide) (back e 1 c) (back_four e 1 c)); iexact H5
  isplitl [H6]; · iapply (h 6 (by decide) (back e 2 c) (back_four e 2 c)); iexact H6
  iapply (h 3 (by decide) (back e 3 c) rfl); iexact H3

/-- A step's two counters. -/
abbrev pair (e : Bool) (s : Fin 6) : sProp 𝕄 := iprop(zero (some (e, false, s)) c ∗ zero (some (e, true, s)) c)
/-- All of the device's own counters at zero. -/
def zeros : sProp 𝕄 := bigSep Finset.univ fun x : Bool × Bool × Fin 6 => zero (some x) c

theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide), bigSepL_cons_cons, bigSepL_cons_cons, bigSepL_cons_cons, bigSepL_cons_cons,
    bigSepL_cons_cons, bigSepL_singleton]
  rfl

/-- A direction's twelve counters. -/
def pairs (e : Bool) : sProp 𝕄 := iprop(pair c e 0 ∗ pair c e 1 ∗ pair c e 2 ∗ pair c e 3 ∗ pair c e 4 ∗ pair c e 5)

theorem zeros_of : (iprop(pairs c false ∗ pairs c true) : sProp 𝕄) ⊢ zeros c := by
  have h : ∀ e : Bool, (pairs c e : sProp 𝕄) ⊢ bigSep Finset.univ fun y : Bool × Fin 6 => zero (some (e, y)) c := by
    intro e
    rw [bigSep_univ_prod, both, six, six]
    unfold pairs
    iintro ⟨⟨A0, B0⟩, ⟨A1, B1⟩, ⟨A2, B2⟩, ⟨A3, B3⟩, ⟨A4, B4⟩, ⟨A5, B5⟩⟩
    isplitl [A0 A1 A2 A3 A4 A5]
    · isplitl [A0]; · iexact A0
      isplitl [A1]; · iexact A1
      isplitl [A2]; · iexact A2
      isplitl [A3]; · iexact A3
      isplitl [A4] <;> iassumption
    isplitl [B0]; · iexact B0
    isplitl [B1]; · iexact B1
    isplitl [B2]; · iexact B2
    isplitl [B3]; · iexact B3
    isplitl [B4] <;> iassumption
  unfold zeros
  rw [bigSep_univ_prod, both]
  exact BIClass.sep_mono (h false) (h true)

/-- A receive slot that is no longer needed. -/
theorem slot_of (e : Bool) (s : Fin 6) (h : s.val < 3) (c' : Dev nD) (X : S512x1024.Idx → Elt F .f32) :
    (owns (c : Thread nD τ) (dst e s c') fullShare X : sProp 𝕄) ⊢ anySlot c e ⟨s.val, h⟩ := by
  rw [dst_slot e s _ h]
  unfold anySlot
  iintro H
  iexists X
  iexact H

end Cert.KernelIdeal.Ring

end
-- ==== Proof.Body.lean ====
/-
# The kernel's body on one device

From what a device holds at the start to what it holds at the end, part by part.
-/
module

public import proofs.«01_k».proof.Proof.Moves

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- What a device holds at the start: of the protocol, everything its steps need. -/
def start : sProp 𝕄 := iprop(levAts L lv ∗ barPk m c ∗ bigSep Finset.univ fun e : Bool => bigSep Finset.univ fun s : Fin 6 => stepPk m e s c)

/-- The three buffers of the kernel's own, at any contents. -/
abbrev anyMm : sProp 𝕄 := iprop(∃ f : Buf (Elt F) ((c : Thread nD τ).loc cc0_scratch0), (c : Thread nD τ).loc cc0_scratch0 ↦{fullShare} f)
abbrev anyCw : sProp 𝕄 := iprop(∃ f : Buf (Elt F) ((c : Thread nD τ).loc cc0_scratch1), (c : Thread nD τ).loc cc0_scratch1 ↦{fullShare} f)
abbrev anyCcw : sProp 𝕄 := iprop(∃ f : Buf (Elt F) ((c : Thread nD τ).loc cc0_scratch2), (c : Thread nD τ).loc cc0_scratch2 ↦{fullShare} f)

/-- What it holds at the end: its own buffers, and every counter at zero. -/
def after : sProp 𝕄 := iprop(anyMm c ∗ anyCw c ∗ anyCcw c ∗ zeros c ∗ zero none c)

theorem may_intro (e : Bool) (s : Fin 6) : (iprop(sendPk m e s c ∗ waitPk m (some (e, false, s)) c) : sProp 𝕄) ⊢ may m c e s := BIBase.Entails.rfl
theorem may_elim (e : Bool) (s : Fin 6) : (may m c e s : sProp 𝕄) ⊢ iprop(sendPk m e s c ∗ waitPk m (some (e, false, s)) c) := BIBase.Entails.rfl
theorem rs_any_false (f : Buf (Elt F) ((c : Thread nD τ).loc cc0_scratch1)) :
    ((c : Thread nD τ).loc cc0_scratch1 ↦{fullShare} f : sProp 𝕄) ⊢ iprop(anySlot c false 0 ∗ anySlot c false 1 ∗ anySlot c false 2) :=
  (BIBase.Entails.of_eq (owns_whole (c : Thread nD τ) cc0_scratch1 fullShare f).symm).trans (rs_split c false f)
theorem rs_any_true (f : Buf (Elt F) ((c : Thread nD τ).loc cc0_scratch2)) :
    ((c : Thread nD τ).loc cc0_scratch2 ↦{fullShare} f : sProp 𝕄) ⊢ iprop(anySlot c true 0 ∗ anySlot c true 1 ∗ anySlot c true 2) :=
  (BIBase.Entails.of_eq (owns_whole (c : Thread nD τ) cc0_scratch2 fullShare f).symm).trans (rs_split c true f)
theorem give_bar_false (X : S512x1024.Idx → Elt F .f32) :
    (iprop((anySlot c false 0 ∗ anySlot c false 1 ∗ anySlot c false 2) ∗ owns (c : Thread nD τ) (outP c false) fullShare X) : sProp 𝕄) ⊢ barPay false (nxt true c) := by
  rw [← prv_not true c]; exact give_bar c false X
theorem give_bar_true (X : S512x1024.Idx → Elt F .f32) :
    (iprop((anySlot c true 0 ∗ anySlot c true 1 ∗ anySlot c true 2) ∗ owns (c : Thread nD τ) (outP c true) fullShare X) : sProp 𝕄) ⊢ barPay true (nxt false c) := by
  rw [← prv_not false c]; exact give_bar c true X

set_option maxHeartbeats 3200000 in
/-- The whole body: from the start to the end, the operands as they were and the result in its buffer. -/
theorem body_spec (X : S2048x2048.Idx → Elt F .f32) {Q : PUnit → sProp (MT nD τ sig Unit (Elt F) ℕ UU ℕ)} :
    (iprop(start m c ∗ anyMm c ∗ anyCw c ∗ anyCcw c ∗ owesE c (owed₀ c) ∗ ins m c ∗ owns (c : Thread nD τ) outM fullShare X) : sProp 𝕄)
      ⊢ iprop(((after c ∗ owesE c 0 ∗ ins m c ∗ owns (c : Thread nD τ) outM fullShare (outAt m)) -∗ Q ⟨⟩)
        -∗ wp frame (wpE (defs₀ (F := F)) 𝒱₀ (c : Thread nD τ) none) Set.univ
          (cc0_body (F := F) xM (Memref.isWhole_whole _) wM (Memref.isWhole_whole _) outM (Memref.isWhole_whole _) mmM (Memref.isWhole_whole _)
            cwM (Memref.isWhole_whole _) ccwM (Memref.isWhole_whole _) cc0_scratch3 cc0_scratch4 cc0_scratch5 cc0_scratch6) Q) := by
  rw [cc0_body_eq_skeleton]
  unfold cc0_body_skel
  simp only [wp_bind]
  have hsteps := fun e => six (F := F) (fun s => stepPk m e s c)
  unfold start
  rw [both, hsteps, hsteps]
  unfold stepPk
  iintro ⟨⟨#Hlev, Hbar, ⟨⟨Af0, Bf0, Rf0⟩, ⟨Af1, Bf1, Rf1⟩, ⟨Af2, Bf2, Rf2⟩, ⟨Af3, Bf3, Rf3⟩, ⟨Af4, Bf4, Rf4⟩, ⟨Af5, Bf5, Rf5⟩⟩, ⟨⟨At0, Bt0, Rt0⟩, ⟨At1, Bt1, Rt1⟩, ⟨At2, Bt2, Rt2⟩, ⟨At3, Bt3, Rt3⟩, ⟨At4, Bt4, Rt4⟩, ⟨At5, Bt5, Rt5⟩⟩⟩, ⟨%f0, Hmm⟩, ⟨%f1, Hcw⟩, ⟨%f2, Hccw⟩, HO, Hin, Hout⟩ Hk
  ihave Mf0 := (may_intro m c false 0) $$ [Af0 Bf0]
  · isplitl [Af0] <;> iassumption
  ihave Mf1 := (may_intro m c false 1) $$ [Af1 Bf1]
  · isplitl [Af1] <;> iassumption
  ihave Mf2 := (may_intro m c false 2) $$ [Af2 Bf2]
  · isplitl [Af2] <;> iassumption
  ihave Mf3 := (may_intro m c false 3) $$ [Af3 Bf3]
  · isplitl [Af3] <;> iassumption
  ihave Mf4 := (may_intro m c false 4) $$ [Af4 Bf4]
  · isplitl [Af4] <;> iassumption
  ihave Mf5 := (may_intro m c false 5) $$ [Af5 Bf5]
  · isplitl [Af5] <;> iassumption
  ihave Mt0 := (may_intro m c true 0) $$ [At0 Bt0]
  · isplitl [At0] <;> iassumption
  ihave Mt1 := (may_intro m c true 1) $$ [At1 Bt1]
  · isplitl [At1] <;> iassumption
  ihave Mt2 := (may_intro m c true 2) $$ [At2 Bt2]
  · isplitl [At2] <;> iassumption
  ihave Mt3 := (may_intro m c true 3) $$ [At3 Bt3]
  · isplitl [At3] <;> iassumption
  ihave Mt4 := (may_intro m c true 4) $$ [At4 Bt4]
  · isplitl [At4] <;> iassumption
  ihave Mt5 := (may_intro m c true 5) $$ [At5 Bt5]
  · isplitl [At5] <;> iassumption
  ihave Hcw := (rs_any_false c f1) $$ Hcw
  ihave Hccw := (rs_any_true c f2) $$ Hccw
  ihave Hout := (out_split c X) $$ Hout
  icases Hout with ⟨⟨%Y0, Of⟩, ⟨%Y1, Ot⟩, ⟨%Y2, W1⟩, ⟨%Y3, W2⟩, ⟨%Y4, W3⟩⟩
  ihave Gf := (give_bar_false c Y0) $$ [Hcw Of]
  · isplitl [Hcw]; · iexact Hcw
    iexact Of
  ihave Gt := (give_bar_true c Y1) $$ [Hccw Ot]
  · isplitl [Hccw]; · iexact Hccw
    iexact Ot
  iapply (part1_spec m c) $$ [Hbar Gf Gt HO]
  · isplitr; · iexact Hlev
    isplitl [Hbar]; · iexact Hbar
    isplitl [Gf]; · iexact Gf
    isplitl [Gt]; · iexact Gt
    iexact HO
  iintro %v2 %v13 %v24 %v30 ⟨HO, Hz, Pf, Pt⟩
  simp only [wp_bind]
  unfold barPay
  icases Pf with ⟨Pf0, Pf1, Pf2, Pf3⟩
  icases Pt with ⟨Pt0, Pt1, Pt2, Pt3⟩
  ihave Mf0 := (may_elim m c false 0) $$ Mf0
  icases Mf0 with ⟨Af0, Bf0⟩
  ihave Mt0 := (may_elim m c true 0) $$ Mt0
  icases Mt0 with ⟨At0, Bt0⟩
  iapply (part2_spec m c v2 v13 v24 v30 f0) $$ [Hin Hmm Af0 Bf0 Pf0 At0 Bt0 Pt0 HO]
  · isplitl [Hin]; · iexact Hin
    isplitl [Hmm]; · iexact Hmm
    isplitl [Af0 Bf0 Pf0]
    · isplitl [Af0]; · iexact Af0
      isplitl [Bf0]; · iexact Bf0
      iexact Pf0
    isplitl [At0 Bt0 Pt0]
    · isplitl [At0]; · iexact At0
      isplitl [Bt0]; · iexact Bt0
      iexact Pt0
    iexact HO
  iintro %r2 ⟨Hin, Sf0, St0, HO⟩
  obtain ⟨v58, v41, v59, v43⟩ := r2
  simp only [wp_bind]
  iapply (part3_spec m c v2 v58 v41 v43 v59 Y2) $$ [Hin W1]
  · isplitl [Hin]; · iexact Hin
    iexact W1
  iintro %v89 ⟨Hin, W1⟩
  simp only [wp_bind]
  iapply (part4_spec m c v2 v89 Y4 Y3) $$ [Hin W3 W2]
  · isplitl [Hin]; · iexact Hin
    isplitl [W3]; · iexact W3
    iexact W2
  iintro %r4 ⟨Hin, W3, W2⟩
  obtain ⟨v124, v125, v130⟩ := r4
  simp only [wp_bind]
  ihave Hp := (parts_split m c) $$ [W1 W2 W3]
  · isplitl [W1]; · iexact W1
    isplitl [W2]; · iexact W2
    iexact W3
  icases Hp with ⟨⟨Of1, Of2, Of3⟩, ⟨Ot1, Ot2, Ot3⟩⟩
  unfold part
  iapply (part5_spec m c v2 v24 v124 v125 v130 _) $$ [Sf0 Rf0 Of1 HO]
  · isplitr; · iexact Hlev
    isplitl [Sf0 Rf0]
    · isplitl [Sf0]; · iexact Sf0
      iexact Rf0
    isplitl [Of1]; · iexact Of1
    iexact HO
  iintro %v132 %v144 ⟨Gf0, Of1, HO⟩
  simp only [wp_bind]
  iapply (part6_spec m c v13 v132 v144) $$ [Gf0 Of1 St0 Rt0 Ot1 HO]
  · isplitr; · iexact Hlev
    isplitl [Gf0]; · iexact Gf0
    isplitl [Of1]; · iexact Of1
    isplitl [St0 Rt0]
    · isplitl [St0]; · iexact St0
      iexact Rt0
    isplitl [Ot1]; · iexact Ot1
    iexact HO
  iintro ⟨Gf0, Of1, Gt0, Ot1, HO⟩
  ihave Ff := (send_one m c false) $$ [Mf1 Of1 Pf1]
  · isplitl [Mf1]; · iexact Mf1
    isplitl [Of1]; · iexact Of1
    iexact Pf1
  ihave Ft := (send_one m c true) $$ [Mt1 Ot1 Pt1]
  · isplitl [Mt1]; · iexact Mt1
    isplitl [Ot1]; · iexact Ot1
    iexact Pt1
  iapply (part7_spec m c v2 v13 v24 v132 v144) $$ [Ff Ft HO]
  · isplitl [Ff]; · iexact Ff
    isplitl [Ft]; · iexact Ft
    iexact HO
  iintro %v220 ⟨Sf1, St1, HO⟩
  iapply (part8_spec m c v2 v24 v220 _) $$ [Sf1 Rf1 Of2 HO]
  · isplitr; · iexact Hlev
    isplitl [Sf1 Rf1]
    · isplitl [Sf1]; · iexact Sf1
      iexact Rf1
    isplitl [Of2]; · iexact Of2
    iexact HO
  iintro %v232 ⟨Gf1, Of2, HO⟩
  simp only [wp_bind]
  iapply (part9_spec m c v13 v220 v232) $$ [Of2 St1 Rt1 Ot2 HO]
  · isplitr; · iexact Hlev
    isplitl [Of2]; · iexact Of2
    isplitl [St1 Rt1]
    · isplitl [St1]; · iexact St1
      iexact Rt1
    isplitl [Ot2]; · iexact Ot2
    iexact HO
  iintro ⟨Of2, Gt1, Ot2, HO⟩
  unfold got
  icases Gf1 with ⟨Zf1, Lf1, Df1, -⟩
  icases Gt1 with ⟨Zt1, Lt1, Dt1, -⟩
  ihave Ff := (send_two m c false true rfl _) $$ [Mf2 Of2 Pf2 Lt1]
  · isplitl [Mf2]; · iexact Mf2
    isplitl [Of2]; · iexact Of2
    isplitl [Pf2]; · iexact Pf2
    iexact Lt1
  ihave Ft := (send_two m c true false rfl _) $$ [Mt2 Ot2 Pt2 Lf1]
  · isplitl [Mt2]; · iexact Mt2
    isplitl [Ot2]; · iexact Ot2
    isplitl [Pt2]; · iexact Pt2
    iexact Lf1
  iapply (part10_spec m c v2 v13 v24) $$ [Ff Ft HO]
  · isplitl [Ff]; · iexact Ff
    isplitl [Ft]; · iexact Ft
    iexact HO
  iintro %r10 ⟨Sf2, St2, HO⟩
  obtain ⟨v308, v310, v250, v251⟩ := r10
  simp only [wp_bind]
  iapply (part11_spec m c v24 v308 v310 v250 v251) $$ [Sf2 Rf2 Of3 HO]
  · isplitr; · iexact Hlev
    isplitl [Sf2 Rf2]
    · isplitl [Sf2]; · iexact Sf2
      iexact Rf2
    isplitl [Of3]; · iexact Of3
    iexact HO
  iintro %v320 ⟨Gf2, Of3, HO⟩
  simp only [wp_bind]
  iapply (part12_spec m c v2 v13 v320) $$ [Of3 St2 Rt2 Ot3 HO]
  · isplitr; · iexact Hlev
    isplitl [Of3]; · iexact Of3
    isplitl [St2 Rt2]
    · isplitl [St2]; · iexact St2
      iexact Rt2
    isplitl [Ot3]; · iexact Ot3
    iexact HO
  iintro %r12 ⟨Of3, Gt2, Ot3, HO⟩
  obtain ⟨v367, v368, v369, v370⟩ := r12
  simp only [wp_bind]
  unfold got
  icases Gf2 with ⟨Zf2, Lf2, Df2, Xf2⟩
  icases Gt2 with ⟨Zt2, Lt2, Dt2, Xt2⟩
  ihave Pt4 := (lent c false true 2 4 rfl (Or.inl rfl) rfl) $$ Xf2
  ihave Pf4 := (lent c true false 2 4 rfl (Or.inl rfl) rfl) $$ Xt2
  iapply (part13_spec m c v2 v367 v368 v369 v370) $$ [Of3 Ot3]
  · isplitl [Of3]; · iexact Of3
    iexact Ot3
  iintro %v386 ⟨Of3, Ot3⟩
  simp only [wp_bind]
  iapply (part14_spec m c v2 v386) $$ [Ot3]
  · iexact Ot3
  iintro %r14 Ot3
  obtain ⟨v438, v442, v443, v448⟩ := r14
  simp only [wp_bind]
  ihave Ff := (send_three m c false true rfl _) $$ [Mf3 Of3 Pf3 Lt2]
  · isplitl [Mf3]; · iexact Mf3
    isplitl [Of3]; · iexact Of3
    isplitl [Pf3]; · iexact Pf3
    iexact Lt2
  ihave Ft := (send_three m c true false rfl _) $$ [Mt3 Ot3 Pt3 Lf2]
  · isplitl [Mt3]; · iexact Mt3
    isplitl [Ot3]; · iexact Ot3
    isplitl [Pt3]; · iexact Pt3
    iexact Lf2
  iapply (part15_spec m c v13 v24 v438 v442 v443 v448) $$ [Ff Ft HO]
  · isplitr; · iexact Hlev
    isplitl [Ff]; · iexact Ff
    isplitl [Ft]; · iexact Ft
    iexact HO
  iintro ⟨Z, Sf3, St3, HO⟩
  iapply (part16_spec m c v2 v13) $$ [Z Sf3 Rf3 St3 Rt3 HO]
  · isplitr; · iexact Hlev
    isplitl [Z Sf3 Rf3]
    · isplitl [Z]; · iexact Z
      isplitl [Sf3]; · iexact Sf3
      iexact Rf3
    isplitl [St3 Rt3]
    · isplitl [St3]; · iexact St3
      iexact Rt3
    iexact HO
  iintro %r16 ⟨Gf3, Gt3, HO⟩
  obtain ⟨v502, v506, v507, v508, v509⟩ := r16
  simp only [wp_bind]
  unfold got
  icases Gf3 with ⟨Zf3, Lf3, Df3, Xf3⟩
  icases Gt3 with ⟨Zt3, Lt3, Dt3, Xt3⟩
  ihave Pt5 := (lent c false true 3 5 rfl (Or.inr rfl) rfl) $$ Xf3
  ihave Pf5 := (lent c true false 3 5 rfl (Or.inr rfl) rfl) $$ Xt3
  ihave Ff := (send_pass m c false 3 4 (by decide) rfl) $$ [Mf4 Df3 Pf4]
  · isplitl [Mf4]; · iexact Mf4
    isplitl [Df3]; · iexact Df3
    iexact Pf4
  ihave Ft := (send_pass m c true 3 4 (by decide) rfl) $$ [Mt4 Dt3 Pt4]
  · isplitl [Mt4]; · iexact Mt4
    isplitl [Dt3]; · iexact Dt3
    iexact Pt4
  iapply (part17_spec m c v13 v24 v502 v506 v507 v508 v509) $$ [Ff Ft HO]
  · isplitr; · iexact Hlev
    isplitl [Ff]; · iexact Ff
    isplitl [Ft]; · iexact Ft
    iexact HO
  iintro ⟨Z, Sf4, St4, HO⟩
  iapply (part18_spec m c v2 v13) $$ [Z Sf4 Rf4 St4 Rt4 HO]
  · isplitr; · iexact Hlev
    isplitl [Z Sf4 Rf4]
    · isplitl [Z]; · iexact Z
      isplitl [Sf4]; · iexact Sf4
      iexact Rf4
    isplitl [St4 Rt4]
    · isplitl [St4]; · iexact St4
      iexact Rt4
    iexact HO
  iintro %r18 ⟨Gf4, Gt4, HO⟩
  obtain ⟨v566, v570, v571⟩ := r18
  simp only [wp_bind]
  unfold got
  icases Gf4 with ⟨Zf4, Lf4, Df4, -⟩
  icases Gt4 with ⟨Zt4, Lt4, Dt4, -⟩
  ihave Ff := (send_pass m c false 4 5 (by decide) rfl) $$ [Mf5 Df4 Pf5]
  · isplitl [Mf5]; · iexact Mf5
    isplitl [Df4]; · iexact Df4
    iexact Pf5
  ihave Ft := (send_pass m c true 4 5 (by decide) rfl) $$ [Mt5 Dt4 Pt5]
  · isplitl [Mt5]; · iexact Mt5
    isplitl [Dt4]; · iexact Dt4
    iexact Pt5
  iapply (part19_spec m c v13 v24 v566 v570 v571) $$ [Ff Ft HO]
  · isplitr; · iexact Hlev
    isplitl [Ff]; · iexact Ff
    isplitl [Ft]; · iexact Ft
    iexact HO
  iintro ⟨Z, Sf5, St5, HO⟩
  simp only [Prog.lift, Prog.bind_op, Prog.bind_ret, Prog.pure_eq_ret]
  iapply (wp_wait_recv m c false 5 rfl (credit_slice _ _ (off12_eq c).2.2) (rest 0 c) (above_rest c 0 (5 + 2) (by decide) (by decide))) $$ [Rf5 HO]
  · isplitr; · iexact Hlev
    isplitl [Rf5] <;> iassumption
  iintro ⟨HO, Zg5, Df5, -⟩
  rw [wp_ret]
  imodintro
  iapply (wp_wait_send m c true 5 rfl (credit_slice _ _ (off13_eq c).2.2) (rest 0 c) (above_rest c 0 0 (by decide) (by decide))) $$ [St5 HO]
  · isplitr; · iexact Hlev
    isplitl [St5] <;> iassumption
  iintro ⟨HO, Zu5, Lt5⟩
  rw [wp_ret]
  imodintro
  iapply (wp_wait_recv m c true 5 rfl (credit_slice _ _ (off13_eq c).2.2) (rest 0 c) (above_rest c 0 (5 + 2) (by decide) (by decide))) $$ [Rt5 HO]
  · isplitr; · iexact Hlev
    isplitl [Rt5] <;> iassumption
  iintro ⟨HO, Zv5, Dt5, -⟩
  rw [wp_ret]
  imodintro
  rw [wp_ret]
  imodintro
  icases Gf0 with ⟨Zf0, Lf0, Df0, -⟩
  icases Gt0 with ⟨Zt0, Lt0, Dt0, -⟩
  ihave Ef := (all_done m c false) $$ [Lf3 Lf4 Sf5 Df5]
  · isplitl [Lf3]; · iexact Lf3
    isplitl [Lf4]; · iexact Lf4
    isplitl [Sf5]; · iexact Sf5
    iexact Df5
  ihave Et := (all_done m c true) $$ [Lt3 Lt4 Lt5 Dt5]
  · isplitl [Lt3]; · iexact Lt3
    isplitl [Lt4]; · iexact Lt4
    isplitl [Lt5]; · iexact Lt5
    iexact Dt5
  ihave Hout := (out_join m c) $$ [Ef Et]
  · isplitl [Ef]; · iexact Ef
    iexact Et
  ihave Hmm := (mm_join c _ _) $$ [Lf0 Lt0]
  · isplitl [Lf0]; · iexact Lf0
    iexact Lt0
  ihave Df0 := (slot_of c false 0 (by decide) _ _) $$ Df0
  ihave Df1 := (slot_of c false 1 (by decide) _ _) $$ Df1
  ihave Df2 := (slot_of c false 2 (by decide) _ _) $$ Df2
  ihave Dt0 := (slot_of c true 0 (by decide) _ _) $$ Dt0
  ihave Dt1 := (slot_of c true 1 (by decide) _ _) $$ Dt1
  ihave Dt2 := (slot_of c true 2 (by decide) _ _) $$ Dt2
  ihave Hcw := (rs_join_false c) $$ [Df0 Df1 Df2]
  · isplitl [Df0]; · iexact Df0
    isplitl [Df1]; · iexact Df1
    iexact Df2
  ihave Hccw := (rs_join_true c) $$ [Dt0 Dt1 Dt2]
  · isplitl [Dt0]; · iexact Dt0
    isplitl [Dt1]; · iexact Dt1
    iexact Dt2
  iapply Hk
  unfold after
  isplitl [Hmm Hcw Hccw Zf0 Zf1 Zf2 Zf3 Zf4 Z Zg5 Zt0 Zt1 Zt2 Zt3 Zt4 Zu5 Zv5 Hz]
  · isplitl [Hmm]; · iexact Hmm
    isplitl [Hcw]; · iexact Hcw
    isplitl [Hccw]; · iexact Hccw
    isplitl [Zf0 Zf1 Zf2 Zf3 Zf4 Z Zg5 Zt0 Zt1 Zt2 Zt3 Zt4 Zu5 Zv5]
    · iapply (zeros_of c)
      unfold pairs
      isplitl [Zf0 Zf1 Zf2 Zf3 Zf4 Z Zg5]
      · isplitl [Zf0]; · iexact Zf0
        isplitl [Zf1]; · iexact Zf1
        isplitl [Zf2]; · iexact Zf2
        isplitl [Zf3]; · iexact Zf3
        isplitl [Zf4]; · iexact Zf4
        unfold pair
        isplitl [Z] <;> iassumption
      isplitl [Zt0]; · iexact Zt0
      isplitl [Zt1]; · iexact Zt1
      isplitl [Zt2]; · iexact Zt2
      isplitl [Zt3]; · iexact Zt3
      isplitl [Zt4]; · iexact Zt4
      unfold pair
      isplitl [Zu5] <;> iassumption
    iexact Hz
  isplitl [HO]; · iexact HO
  isplitl [Hin] <;> iassumption

end Cert.KernelIdeal.Ring

end
-- ==== Proof.Fund.lean ====
/-
# What the launch deals out

Every device's cells are set up at once, each device gets its positions and the rights to pay that it uses, and the
credits for what its neighbours owe it.
-/
module

public import proofs.«01_k».proof.Proof.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel's own semaphores: the 24 of its sends and receives. -/
abbrev osem (x : Bool × Bool × Fin 6) : SemLoc sig := .dma (xferS x)
theorem ownSemFacts : Pipeline.OwnSemFacts cfg0.spec osem := by decide

/-- Every cell of every device. -/
abbrev cellAt (x : Dev nD × Cell) : GSem nD τ sig := cell x.2 x.1
theorem cellAt_injective : Function.Injective cellAt := fun x y h => Prod.ext (cell_inj h).2 (cell_inj h).1
def ringCells : Finset (GSem nD τ sig) := Finset.univ.map ⟨cellAt, cellAt_injective⟩

/-- A device's rights to pay: one for each of its cells, and its barrier's second. -/
abbrev tokAt (x : Dev nD × (Cell ⊕ Unit)) : GSem nD τ sig × ℕ × Bool :=
  match x.2 with
  | .inl k => (cell k x.1, 0, false)
  | .inr _ => (barCell x.1, 0, true)
theorem tokAt_injective : Function.Injective tokAt := by
  rintro ⟨c, k | u⟩ ⟨c', k' | u'⟩ h
  · obtain ⟨h1, h2⟩ := cell_inj (congrArg (fun y : GSem nD τ sig × ℕ × Bool => y.1) h)
    have h2 : c = c' := h2
    rw [h1, h2]
  · exact Bool.noConfusion (congrArg (fun y : GSem nD τ sig × ℕ × Bool => y.2.2) h)
  · exact Bool.noConfusion (congrArg (fun y : GSem nD τ sig × ℕ × Bool => y.2.2) h)
  · have h2 : c = c' := (cell_inj (congrArg (fun y : GSem nD τ sig × ℕ × Bool => y.1) h)).2
    rw [h2]
def ringToks : Finset (GSem nD τ sig × ℕ × Bool) := Finset.univ.map ⟨tokAt, tokAt_injective⟩

def u₀ : UU :=
  (initOf (Pipeline.cells cfgs cellOf_inj) (Pipeline.launchToks cfgs cellOf_inj), initOf ringCells ringToks)

/-- The rights to pay device `c`'s own cells. -/
def toks (c : Dev nD) : sProp 𝕄 :=
  iprop((bigSep Finset.univ fun k : Cell => dutyTok ER (cell k c) 0 false) ∗ dutyTok ER (barCell c) 0 true)

/-- What the launch deals device `c`. -/
def G (c : Dev nD) : sProp 𝕄 :=
  iprop((bigSep Finset.univ fun k : Cell => roundState ER (rd m) (cell k c) 0)
    ∗ (bigSep Finset.univ fun k : Cell => iprop(atPos ER (cell k c) 0 ∅ 0 ∗ reached ER (cell k c) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (cell k c) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, Finset.univ_unique (α := Unit), bigSep_singleton]
    rfl
  iintro HX
  imod (Rounds.fund ER (rd m) ringCells ringToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- A family over a device's cells is the barrier's and the others'. -/
theorem over_cells (Φ : Cell → sProp 𝕄) : bigSep Finset.univ Φ = iprop((bigSep Finset.univ fun x => Φ (some x)) ∗ Φ none) := by
  rw [bigSep_univ_equiv (Equiv.optionEquivSumPUnit.{0, 0} (Bool × Bool × Fin 6)).symm Φ, bigSep_univ_sum, Finset.univ_unique (α := PUnit), bigSep_singleton]
  rfl
/-- A family over the sends and receives, step by step. -/
theorem over_steps (Φ : Bool × Bool × Fin 6 → sProp 𝕄) : bigSep Finset.univ Φ
    = bigSep Finset.univ fun e : Bool => bigSep Finset.univ fun s : Fin 6 => iprop(Φ (e, false, s) ∗ Φ (e, true, s)) := by
  rw [bigSep_univ_prod]
  refine bigSep_congr fun e _ => ?_
  rw [bigSep_univ_prod, both, bigSep_sep']

theorem ownSems0_eq (c : Dev nD) : (Pipeline.ownSems0 (Ix := Unit) (Name := ℕ) (U := UU) (Lvl := ℕ) (Val := Elt F) (τ := τ) osem c : sProp 𝕄) = zeros c := rfl
theorem unscopedSems0_eq (c : Dev nD) : (unscopedSems0 c : sProp 𝕄) = zero none c := by
  unfold unscopedSems0; rw [bigSep_eq_bigSepL_of_eq [SemLoc.reg barS] (by decide) (by decide)]; rfl

/-- Device `c`'s cells are opened. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (rd m) κ (cell k c)))
          ∗ (bigSep Finset.univ fun k : Cell => iprop(atPos ER (cell k c) 0 ∅ 0 ∗ reached ER (cell k c) 0)) ∗ toks c) := by
  rw [ownSems0_eq, unscopedSems0_eq]
  have hopen : iprop((bigSep Finset.univ fun k : Cell => zero k c) ∗ bigSep Finset.univ fun k : Cell => roundState ER (rd m) (cell k c) 0)
      ⊢ (|={Set.univ}=> bigSep Finset.univ fun k : Cell => iprop(∃ κ : ℕ, cellInv ER (rd m) κ (cell k c)) : sProp 𝕄) := by
    rw [← bigSep_sep']
    exact (bigSep_mono fun k _ => (Rounds.body_intro ER (rd m) (cell k c)).trans inv_alloc).trans (bigSep_fupd _ _)
  unfold G zeros
  iintro ⟨Hx, Hb, Hst, Hat, Htok⟩
  imod hopen $$ [Hx Hb Hst] with Hinv
  · isplitl [Hx Hb]
    · rw [over_cells]
      isplitl [Hx] <;> iassumption
    iexact Hst
  imodintro
  isplitl [Hinv]; · iexact Hinv
  isplitl [Hat] <;> iassumption

/-- What every device knows of a cell: it is open, and at its first round. -/
def known1 (x : Dev nD × Cell) : sProp 𝕄 := iprop((∃ κ : ℕ, cellInv ER (rd m) κ (cellAt x)) ∗ reached ER (cellAt x) 0)
def known : sProp 𝕄 := bigSep Finset.univ fun x : Dev nD × Cell => known1 m x
instance known1_persistent (x : Dev nD × Cell) : BI.Persistent (known1 m x) := by unfold known1; infer_instance
instance known_persistent : BI.Persistent (known m) := by unfold known; infer_instance
theorem known_at (k : Cell) (c : Dev nD) : (known m : sProp 𝕄) ⊢ iprop((∃ κ : ℕ, cellInv ER (rd m) κ (cell k c)) ∗ reached ER (cell k c) 0) :=
  bigSep_elim (Φ := fun x : Dev nD × Cell => known1 m x) (Finset.mem_univ (c, k))

/-- The rights to pay that device `c` uses: for one step of one direction; all of them. -/
abbrev payStep (c : Dev nD) (e : Bool) (s : Fin 6) : sProp 𝕄 :=
  iprop(dutyTok ER (sendCell e s c) 0 false ∗ dutyTok ER (recvCell e s (nxt e c)) 0 false)
def payToks (c : Dev nD) : sProp 𝕄 :=
  iprop((bigSep Finset.univ fun e : Bool => bigSep Finset.univ fun s : Fin 6 => payStep c e s)
    ∗ dutyTok ER (barCell (nxt true c)) 0 false ∗ dutyTok ER (barCell (nxt false c)) 0 true)
/-- What device `c` alone gets: its positions and those rights. -/
def linear (c : Dev nD) : sProp 𝕄 := iprop((bigSep Finset.univ fun k : Cell => atPos ER (cell k c) 0 ∅ 0) ∗ payToks c)
def G' (c : Dev nD) : sProp 𝕄 := iprop(known m ∗ linear c)

/-- A family over the devices, read one place on in a direction. -/
theorem shift (e : Bool) (Φ : Dev nD → sProp 𝕄) : bigSep Finset.univ Φ = bigSep Finset.univ fun c : Dev nD => Φ (nxt e c) :=
  bigSep_univ_equiv (ring e) Φ

/-- The rights to pay go to the devices that use them. -/
theorem toks_around : (bigSep Finset.univ fun c : Dev nD => (toks c : sProp 𝕄)) ⊢ bigSep Finset.univ fun c : Dev nD => payToks c := by
  unfold toks payToks payStep
  simp only [over_cells, over_steps, both, bigSep_sep']
  rw [shift true (fun c : Dev nD => (dutyTok ER (barCell c) 0 false : sProp 𝕄)),
    shift false (fun c : Dev nD => (dutyTok ER (barCell c) 0 true : sProp 𝕄)),
    shift false (fun c : Dev nD => (bigSep Finset.univ fun s : Fin 6 => dutyTok ER (recvCell false s c) 0 false : sProp 𝕄)),
    shift true (fun c : Dev nD => (bigSep Finset.univ fun s : Fin 6 => dutyTok ER (recvCell true s c) 0 false : sProp 𝕄))]
  iintro ⟨⟨⟨⟨H1, H2⟩, H3, H4⟩, H5⟩, H6⟩
  isplitl [H1 H2 H3 H4]
  · isplitl [H1 H2]
    · isplitl [H1] <;> iassumption
    isplitl [H3] <;> iassumption
  isplitl [H5] <;> iassumption

theorem with_known {I : Type} [DecidableEq I] {S : Finset I} {R : sProp 𝕄} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (rd m) κ (cell k c)))
          ∗ (bigSep Finset.univ fun k : Cell => iprop(atPos ER (cell k c) 0 ∅ 0 ∗ reached ER (cell k c) 0)) ∗ toks c) : sProp 𝕄)
      ⊢ bigSep Finset.univ (G' m) := by
  have hk : (bigSep Finset.univ fun c : Dev nD => bigSep Finset.univ fun k : Cell => iprop((∃ κ : ℕ, cellInv ER (rd m) κ (cell k c)) ∗ reached ER (cell k c) 0) : sProp 𝕄)
      ⊢ known m := Entails.of_eq (bigSep_univ_prod (fun x : Dev nD × Cell => known1 m x)).symm
  simp only [bigSep_sep'] at hk ⊢
  iintro ⟨HI, ⟨Hat, HR⟩, Htok⟩
  ihave #HK := hk $$ [HI HR]
  · isplitl [HI] <;> iassumption
  ihave Htk := (toks_around (F := F)) $$ Htok
  iapply (with_known (R := known m) (Φ := linear) (Ψ := G' m) fun c _ => BIBase.Entails.rfl)
  isplitr; · iexact HK
  unfold linear
  rw [bigSep_sep']
  isplitl [Hat] <;> iassumption

/-- All the devices' cells are opened and dealt out. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem eq_nxt_iff (e : Bool) (c d : Dev nD) : c = nxt e d ↔ d = prv e c :=
  ⟨fun h => by rw [h, prv_nxt], fun h => by rw [h, nxt_prv]⟩

/-- What a tally at one cell says of another. -/
theorem tally_cell (k k' : Cell) (c c' : Dev nD) (n : ℕ) :
    (tallyAt (cell k' c') () n : CellTallies nD τ sig Unit) (cell k c) () = if k = k' ∧ c = c' then n else 0 := by
  rw [tallyAt_apply]
  by_cases h : k = k' ∧ c = c'
  · rw [if_pos h, if_pos ⟨by rw [h.1, h.2], rfl⟩]
  · rw [if_neg h, if_neg fun h' => h (cell_inj h'.1)]

theorem rest_bar_zero (d c : Dev nD) : ∀ k, rest k d (barCell c) () = 0
  | 0 => rfl
  | k + 1 => by
    rw [rest, Pi.add_apply, Finsupp.add_apply, Pi.add_apply, Finsupp.add_apply, rest_bar_zero d c k, tally_cell, tally_cell,
      if_neg (fun h => nomatch h.1), if_neg (fun h => nomatch h.1)]
theorem rest_recv_eq (e : Bool) (s : Fin 6) (d c : Dev nD) : ∀ k, k ≤ 6 → rest k d (recvCell e s c) () = if 6 ≤ s.val + k ∧ d = prv e c then N else 0
  | 0, _ => by rw [if_neg (by omega)]; rfl
  | k + 1, hk => by
    have h5 : (Fin.ofNat 6 (5 - k)).val = 5 - k := Nat.mod_eq_of_lt (by omega)
    have hs : ∀ e', (some (e, true, s) : Cell) = some (e', true, Fin.ofNat 6 (5 - k)) ↔ e = e' ∧ s.val + k = 5 := fun e' => by
      rw [Option.some.injEq, Prod.mk.injEq, Prod.mk.injEq, Fin.ext_iff, h5]
      constructor
      · rintro ⟨h, -, h'⟩; exact ⟨h, by omega⟩
      · rintro ⟨h, h'⟩; exact ⟨h, rfl, by omega⟩
    rw [rest, Pi.add_apply, Finsupp.add_apply, Pi.add_apply, Finsupp.add_apply, rest_recv_eq e s d c k (by omega), tally_cell, tally_cell]
    simp only [hs, eq_nxt_iff]
    by_cases h : s.val + k = 5
    · rw [if_neg (by omega)]
      cases e
      · rw [if_neg (by simp), Nat.zero_add]
        exact if_congr ⟨fun h' => ⟨by omega, h'.2⟩, fun h' => ⟨⟨rfl, h⟩, h'.2⟩⟩ rfl rfl
      · rw [if_neg (c := (true = false ∧ _) ∧ _) (by simp), Nat.zero_add, Nat.add_zero]
        exact if_congr ⟨fun h' => ⟨by omega, h'.2⟩, fun h' => ⟨⟨rfl, h⟩, h'.2⟩⟩ rfl rfl
    · rw [if_neg (c := (e = true ∧ _) ∧ _) (fun h' => h h'.1.2), if_neg (c := (e = false ∧ _) ∧ _) (fun h' => h h'.1.2), Nat.add_zero, Nat.add_zero]
      exact if_congr ⟨fun h' => ⟨by omega, h'.2⟩, fun h' => ⟨by omega, h'.2⟩⟩ rfl rfl

theorem owed_bar (d c : Dev nD) : owed₀ d (barCell c) () = (if d = prv false c then 1 else 0) + (if d = prv true c then 1 else 0) := by
  unfold owed₀ owed₁
  rw [Pi.add_apply, Finsupp.add_apply, Pi.add_apply, Finsupp.add_apply, rest_bar_zero, Nat.zero_add, tally_cell, tally_cell]
  simp only [eq_nxt_iff, true_and]
theorem owed_recv (e : Bool) (s : Fin 6) (d c : Dev nD) : owed₀ d (recvCell e s c) () = if d = prv e c then N else 0 := by
  have hn : ∀ p : Prop, ¬((some (e, true, s) : Cell) = none ∧ p) := fun p h => nomatch h.1
  unfold owed₀ owed₁
  rw [Pi.add_apply, Finsupp.add_apply, Pi.add_apply, Finsupp.add_apply, rest_recv_eq e s d c 6 le_rfl, tally_cell, tally_cell,
    if_neg (hn _), if_neg (hn _), Nat.add_zero, Nat.add_zero]
  exact if_congr ⟨fun h => h.2, fun h => ⟨by omega, h⟩⟩ rfl rfl

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv false c) fun _ => 1, Finset.sum_ite_eq' Finset.univ (prv true c) fun _ => 1, if_pos (Finset.mem_univ _), if_pos (Finset.mem_univ _)]
theorem launch_recv (e : Bool) (s : Fin 6) (c : Dev nD) :
    tallyOn (recvCell e s c) (launchCredit (Pipeline.owing owed₀) 0 (recvCell e s c)) = (tallyAt (recvCell e s c) () N : CellTallies nD τ sig Unit) := by
  unfold tallyAt; refine congrArg _ (Finsupp.ext fun u => ?_); cases u
  rw [Pipeline.launchCredit_owing, Finsupp.single_eq_same, Finset.sum_congr rfl fun d _ => owed_recv e s d c,
    Finset.sum_ite_eq' Finset.univ (prv e c) fun _ => N, if_pos (Finset.mem_univ _)]

def recvLoc : Bool × Fin 6 ↪ SemLoc sig := ⟨fun x => semOf (some (x.1, true, x.2)), fun x y h => by
  have h' := semOf_injective h
  rw [Option.some.injEq, Prod.mk.injEq, Prod.mk.injEq] at h'
  exact Prod.ext h'.1 h'.2.2⟩

/-- The credits of device `c`: two on its barrier, and the bytes of every piece it will receive. -/
def credits (c : Dev nD) : sProp 𝕄 :=
  iprop(cred (tallyAt (barCell c) () 2) ∗ bigSep Finset.univ fun e : Bool => bigSep Finset.univ fun s : Fin 6 => cred (tallyAt (recvCell e s c) () N))
theorem creds (c : Dev nD) : (Pipeline.launchCred owed₀ c : sProp 𝕄) ⊢ credits c := by
  unfold Pipeline.launchCred credits
  rw [bigSep_univ_at _ (SemLoc.reg barS), launch_bar]
  refine sep_mono_right ((bigSep_subset (t := Finset.univ.map recvLoc) fun x hx => ?_).trans ?_)
  · obtain ⟨y, -, rfl⟩ := Finset.mem_map.mp hx
    exact Finset.mem_erase.mpr ⟨fun h => (nomatch h), Finset.mem_univ _⟩
  · rw [bigSep_map, bigSep_univ_prod]
    exact bigSep_mono fun e _ => bigSep_mono fun s _ => Entails.of_eq (congrArg cred (launch_recv e s c))

/-! ## A device's start -/

abbrev mine (c : Dev nD) (e : Bool) (s : Fin 6) : sProp 𝕄 :=
  iprop((atPos ER (sendCell e s c) 0 ∅ 0 ∗ atPos ER (recvCell e s c) 0 ∅ 0) ∗ payStep c e s ∗ cred (tallyAt (recvCell e s c) () N))
theorem step_intro (c : Dev nD) (e : Bool) (s : Fin 6) : (iprop(known m ∗ mine c e s) : sProp 𝕄) ⊢ stepPk m e s c := by
  unfold mine payStep stepPk sendPk wait waitPk
  iintro ⟨#HK, ⟨HaS, HaR⟩, ⟨HtS, HtR⟩, Hc⟩
  ihave #⟨HiS, HrS⟩ := (known_at m (some (e, false, s)) c) $$ HK
  ihave #⟨HiR, -⟩ := (known_at m (some (e, true, s)) c) $$ HK
  ihave #⟨HiN, HrN⟩ := (known_at m (some (e, true, s)) (nxt e c)) $$ HK
  isplitl [HtS HtR]
  · isplitr; · iexact HiS
    isplitr; · iexact HiN
    isplitl [HtS]; · iexact HtS
    isplitr; · iexact HrS
    isplitl [HtR]; · iexact HtR
    iexact HrN
  isplitl [HaS]
  · isplitr; · iexact HiS
    iexact HaS
  isplitl [HaR]
  · isplitr; · iexact HiR
    iexact HaR
  iexact Hc
theorem steps_intro (c : Dev nD) : (iprop(known m ∗ bigSep Finset.univ fun e : Bool => bigSep Finset.univ fun s : Fin 6 => mine c e s) : sProp 𝕄)
    ⊢ bigSep Finset.univ fun e : Bool => bigSep Finset.univ fun s : Fin 6 => stepPk m e s c :=
  with_known fun e _ => with_known fun s _ => step_intro m c e s

theorem start_of (c : Dev nD) : (iprop(G' m c ∗ credits c ∗ levAts L lv) : sProp 𝕄) ⊢ start m c := by
  unfold G' linear payToks credits start barPk signalPk wait waitPk
  rw [over_cells, over_steps]
  iintro ⟨⟨#HK, ⟨Has, Hab⟩, Hts, HtN, HtP⟩, ⟨Hcb, Hcs⟩, Hlev⟩
  ihave #⟨HiB, -⟩ := (known_at m none c) $$ HK
  ihave #⟨HiN, HrN⟩ := (known_at m none (nxt true c)) $$ HK
  ihave #⟨HiP, HrP⟩ := (known_at m none (nxt false c)) $$ HK
  isplitl [Hlev]; · iexact Hlev
  isplitl [HtN HtP Hab Hcb]
  · isplitl [HtN]
    · isplitr; · iexact HiN
      isplitl [HtN]; · iexact HtN
      iexact HrN
    isplitl [HtP]
    · isplitr; · iexact HiP
      isplitl [HtP]; · iexact HtP
      iexact HrP
    isplitl [Hab]
    · isplitr; · iexact HiB
      iexact Hab
    iexact Hcb
  iapply (steps_intro m c)
  isplitr; · iexact HK
  simp only [bigSep_sep']
  isplitl [Has]; · iexact Has
  isplitl [Hts] <;> iassumption

end Cert.KernelIdeal.Ring

end
-- ==== Proof.Launch.lean ====
/-
# The run on four devices

The kernel's body meets the launch: every fair execution ends, with the result in every device's result array, the
arguments as they were and every counter at zero.
-/
module

public import proofs.«01_k».proof.Proof.Fund
public import proofs.«01_k».proof.Proof.Gen.KernelIdeal.Points
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the start. -/
abbrev s0 : MemSt nD τ sig (Elt F) := ⟨m, fun _ => 0, ρ⟩

def Φ₀ (c : Dev nD) : sProp 𝕄 := iprop(start m c ∗ anyMm c ∗ anyCw c ∗ anyCcw c)

/-- What the kernel's one point finds and leaves. -/
def dats (_ : Fin 1) (c : Dev nD) : Dat τ (Elt F) Unit ℕ UU ℕ cfg0 c where
  A w := (s0 m ρ).mem ((cfg0.win w).arr.view.loc (c : Thread nD τ))
  after w _ := match w with
    | ⟨0, _⟩ => xs m c
    | ⟨1, _⟩ => ws m c
    | ⟨2, _⟩ => outAt m
  Φ t := match t with
    | ⟨0, _⟩ => Φ₀ m c
    | ⟨_ + 1, _⟩ => after c
  q _ := fullShare
  owed t := match t with
    | ⟨0, _⟩ => owed₀ c
    | ⟨_ + 1, _⟩ => 0

theorem share_eq (c : Dev nD) (w : Fin cfg0.W) : (dats m ρ 0 c).share w = fullShare := by unfold Dat.share; split <;> rfl

/-- A staging buffer of device `c`, holding `X`. -/
abbrev stg (c : Dev nD) (b : Ref sig .tc) (X : b.ty.Contents (Elt F)) : sProp 𝕄 :=
  owns (c : Thread nD τ) (Memref.whole b) fullShare X

def before (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def ended (c : Dev nD) : sProp 𝕄 :=
  iprop(after c ∗ (dats m ρ 0 c).owesAt () t0_0.succ ∗ stg c cc0_stg0_0 (xs m c) ∗ stg c cc0_stg1_0 (ws m c) ∗ stg c cc0_stg2_0 (outAt m))

theorem before_x (c : Dev nD) (d) : (dats m ρ 0 c).before (0 : Fin 3) t0_0 d = xs m c := by
  unfold Dat.before; rw [if_pos (fetch0_0 t0_0)]; rfl
theorem before_w (c : Dev nD) (d) : (dats m ρ 0 c).before (1 : Fin 3) t0_0 d = ws m c := by
  unfold Dat.before; rw [if_pos (fetch0_1 t0_0)]; rfl

theorem stg_whole (c : Dev nD) (b : Ref sig .tc) (X : b.ty.Contents (Elt F)) : (stg c b X : sProp 𝕄) = iprop((c : Thread nD τ).loc b ↦{fullShare} X) :=
  owns_whole (c : Thread nD τ) b fullShare X

/-- The kernel's body, from what the launch hands it to what the launch takes back. -/
theorem body_of (c : Dev nD) :
    before m ρ c ⊢ wp frame (wpE (defs₀ (F := F)) 𝒱₀ (c : Thread nD τ) none) Set.univ
      (cc0_body (F := F) xM (Memref.isWhole_whole _) wM (Memref.isWhole_whole _) outM (Memref.isWhole_whole _) mmM (Memref.isWhole_whole _)
        cwM (Memref.isWhole_whole _) ccwM (Memref.isWhole_whole _) cc0_scratch3 cc0_scratch4 cc0_scratch5 cc0_scratch6) (fun _ => ended m ρ c) := by
  unfold before ended Φ₀
  simp only [before_x, before_w]
  unfold Dat.owesAt Pipeline.owesWithin
  rw [show (dats m ρ 0 c).owed t0_0.castSucc = owed₀ c from rfl, show (dats m ρ 0 c).owed t0_0.succ = 0 from rfl]
  iintro ⟨⟨Hs, Hmm, Hcw, Hccw⟩, ⟨%W, -, HO⟩, ⟨%d0, Hx⟩, ⟨%d1, Hw⟩, ⟨%d2, Hout⟩⟩
  iapply (body_spec m c _) $$ [Hs Hmm Hcw Hccw HO Hx Hw Hout]
  · isplitl [Hs]; · iexact Hs
    isplitl [Hmm]; · iexact Hmm
    isplitl [Hcw]; · iexact Hcw
    isplitl [Hccw]; · iexact Hccw
    isplitl [HO]
    · unfold owesE
      iexists W; iexact HO
    isplitl [Hx Hw]
    · unfold ins
      rw [← stg_whole, ← stg_whole]
      isplitl [Hx] <;> iassumption
    iexact Hout
  iintro ⟨Ha, HO, Hin, Hout⟩
  isplitl [Ha]; · iexact Ha
  isplitl [HO]
  · unfold owesE
    icases HO with ⟨%W', HO⟩
    iexists W'
    isplitr; · ipureintro; exact fun _ _ => Or.inl trivial
    iexact HO
  unfold ins
  rw [← stg_whole, ← stg_whole]
  icases Hin with ⟨Hx, Hw⟩
  isplitl [Hx]; · iexact Hx
  isplitl [Hw] <;> iassumption

theorem body_obligation (c : Dev nD) : BodyObligation (dats (F := F) m ρ 0 c) (defs₀ (F := F)) 𝒱₀ () Set.univ := fun t => by
  rw [show t = t0_0 from fin_N0 t]
  rw [bigSep_W0, bigSep_W0]
  exact body_of m ρ c

/-! ## The launch's side conditions -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨-, Hlev, Hcr, -, HG⟩
  ihave Hc := (creds (F := F) c) $$ Hcr
  imodintro
  isplitl
  · iapply (start_of m c)
    isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq, ownSems0_eq, unscopedSems0_eq]
  unfold after
  iintro ⟨Hmm, Hcw, Hccw, Hz, Hb⟩
  isplitl [Hb]; · iexact Hb
  isplitl [Hz]; · iexact Hz
  isplitl [Hmm]; · iexact Hmm
  isplitl [Hcw] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) (by
      rcases t with ⟨_ | _, ht⟩
      · exact above_owed₀ c
      · exact above_zero 0)

/-! ## The run -/

/-- What an array of device `c` holds at the end. -/
def finalA (c : Dev nD) (w : Fin cfg0.W) : Buf (Elt F) ((cfg0.win w).arr.view.loc (c : Thread nD τ)) := (dats m ρ 0 c).arrAt w cfg0.N

set_option maxRecDepth 8000 in
/-- From any memory with every counter at zero, every fair execution on four devices ends, each array as `finalA` says and
every counter at zero. -/
theorem run_main : θ_run defs (onTc (τ := τ) (main (F := F))) (s0 m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they began. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.KernelIdeal.Ring

end
-- ==== Proof.Same.lean ====
/-
# The two printings of the kernel are one program

The kernel is printed twice, once for bit patterns and once for the extended reals. No operation was rewritten in the
second printing, so the two body tables are equal, and a run of one is a run of the other.
-/
module

public import proofs.«01_k».proof.Defs
public import proofs.«01_k».proof.Proof.Gen.Kernel
public import proofs.«01_k».proof.Proof.Gen.KernelIdeal

@[expose] public section

noncomputable section

namespace Cert.Same

open Idealize.ShloMosaic

variable {F : FTy → Type} [FloatOps F]

/-- The two printings give the kernel one and the same body. -/
theorem body_eq : Cert.Kernel.cc0_body (F := F) = Cert.KernelIdeal.cc0_body (F := F) := rfl

/-- The tables of kernel bodies are equal: the one label they have runs the same body. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- The tables of bodies, with the launches', are equal. -/
theorem defs_eq : Cert.Kernel.defs (F := F) = Cert.KernelIdeal.defs (F := F) := by
  unfold Cert.Kernel.defs Cert.KernelIdeal.defs
  exact congrArg (Pipeline.defs _) bodies_eq

end Cert.Same

end
-- ==== Proof.Result.lean ====
/-
# What the result array ends with

Every window of the kernel is one block, the whole array. So the argument blocks are the argument arrays, and each device's
result array ends as its body left the result.
-/
module

public import proofs.«01_k».proof.Proof.Launch

@[expose] public section

noncomputable section

namespace Cert.KernelIdeal.Ring

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- A device's first argument block is its first argument array. -/
theorem xs_eq (c : Dev nD) : xs m c = m ((c : Thread nD τ).loc main_arg0) :=
  Memref.read_access_unit_zero (Elt F) main_arg0 (funext fun a => by fin_cases a <;> decide) (fun a => by fin_cases a <;> decide) _

/-- A device's second argument block is its second argument array. -/
theorem ws_eq (c : Dev nD) : ws m c = m ((c : Thread nD τ).loc main_arg1) :=
  Memref.read_access_unit_zero (Elt F) main_arg1 (funext fun a => by fin_cases a <;> decide) (fun a => by fin_cases a <;> decide) _

/-- A device's result array ends as the whole result. -/
theorem finalA_out (c : Dev nD) : finalA m ρ c (2 : Fin 3) = outAt m := by
  have h := (dats m ρ 0 c).read_blk_arrAt_eq_flushed (2 : Fin 3) (fun t t' _ _ ne => absurd ((fin_N0 t).trans (fin_N0 t').symm) ne)
    cfg0.N t0_0 t0_0.isLt (flush0_2 t0_0)
  exact (Memref.read_access_unit_zero (Elt F) main_v1 (funext fun a => by fin_cases a <;> decide) (fun a => by fin_cases a <;> decide) _).symm.trans h

end Cert.KernelIdeal.Ring

end
-- ==== Proof.Equation.lean ====
/-
# The result is the reference's

Over the extended reals: a finished chunk is the activation of the sum, over the four devices, of their partial products.
The four sums of 512 products each are the one sum of 2048 products that the whole matrix product has, whatever the order
in which a ring adds them.
-/
module

public import proofs.«01_k».proof.Proof.Result
public import Idealize.ShloMosaic.Lib.StackMember
public import Idealize.ShloMosaic.Lib.KernelVsHost
public import Idealize.ShloMosaic.Lib.Layout

@[expose] public section

noncomputable section

namespace Cert.KernelIdeal.Ring

open Cert.KernelIdeal Cert.KernelIdeal.Gen
open Idealize.ShloMosaic Idealize.ShloMosaic.ValueIdx
open Idealize.ShloMosaic.TcCoe
open scoped BigOperators

/-! ## The activation -/

/-- The reference's activation of one number, with the constants that the two programs share. -/
def act (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * (y * y * y))))

/-- The kernel's activation is the reference's: it multiplies the cube's factors in another order. -/
theorem pay14_at (Y : FVec Ideal S512x1024 .f32) (i : S512x1024.Idx) : k0_pay14 (F := Ideal) Y i = act (Y i) := by
  have h : k0_pay14 (F := Ideal) Y i = Ideal.ofBits .f32 0x3F000000#32 * (Y i : EReal)
      * (Ideal.ofBits .f32 0x3F800000#32
        + Ideal.tanh (Ideal.ofBits .f32 0x3F4C422A#32
          * ((Y i : EReal) + Ideal.ofBits .f32 0x3D372713#32 * (Y i : EReal) * (Y i : EReal) * (Y i : EReal)))) := by
    unfold k0_pay14
    rw [shapeCast_self]
    rfl
  rw [h, act, mul_assoc (Ideal.ofBits .f32 0x3D372713#32 : EReal), mul_assoc (Ideal.ofBits .f32 0x3D372713#32 : EReal)]

/-! ## One device's partial product -/

/-- Position `k` of the stretch of 512 that belongs to device `c`. -/
def at512 (c : Dev nD) (k : Fin 512) : Fin 2048 := ⟨512 * c.val + k.val, by
  have := c.isLt; have : nD = 4 := rfl; have := k.isLt; omega⟩

variable (m : (ℓ : Loc nD τ sig) → Buf (Elt Ideal) ℓ) (A B : S2048x2048.Idx → EReal)

/-- Each device has its block of columns of `A` and its block of rows of `B`. -/
def Cut : Prop := ∀ c : Dev nD,
  m ((c : Thread nD τ).loc main_arg0) = Layout.block ⟨2, ![2048, 512]⟩ ⟨2, ![2048, 2048]⟩ 1 4 c A
  ∧ m ((c : Thread nD τ).loc main_arg1) = Layout.block ⟨2, ![512, 2048]⟩ ⟨2, ![2048, 2048]⟩ 0 4 c B

/-- What device `c` adds to an entry: the products of its 512 columns and rows. -/
def share (c : Dev nD) (R q : Fin 2048) : EReal := ∑ k : Fin 512, A (ix2 R (at512 c k)) * B (ix2 (at512 c k) q)

theorem rowsOf_at (X : (cc0_stg0_0 : Ref sig .tc).ty.Contents (Elt Ideal)) (j : Dev nD) (r k : Fin 512) :
    rowsOf X j (ix2 r k) = X (ix2 (at512 j r) k) := by
  refine congrArg X (funext fun a => ?_)
  fin_cases a
  · exact Fin.ext (by show rOff j 0 + 1 * r.val = 512 * j.val + r.val; rw [Nat.one_mul]; rfl)
  · exact Fin.ext (by show rOff j 1 + 1 * k.val = k.val; rw [Nat.one_mul]; exact Nat.zero_add _)

variable {m A B}

theorem x_at (h : Cut m A B) (c : Dev nD) (R : Fin 2048) (k : Fin 512) : xs m c (ix2 R k) = A (ix2 R (at512 c k)) := by
  rw [xs_eq, (h c).1]
  refine congrArg A (funext fun a => ?_)
  fin_cases a
  · rfl
  · exact Fin.ext (by show c.val * 512 + k.val = 512 * c.val + k.val; omega)

theorem w_at (h : Cut m A B) (c : Dev nD) (k : Fin 512) (q : Fin 2048) : ws m c (ix2 k q) = B (ix2 (at512 c k) q) := by
  rw [ws_eq, (h c).2]
  refine congrArg B (funext fun a => ?_)
  fin_cases a
  · exact Fin.ext (by show c.val * 512 + k.val = 512 * c.val + k.val; omega)
  · rfl

theorem prod_at (h : Cut m A B) (c j : Dev nD) (r : Fin 512) (q : Fin 2048) : prod m c j (ix2 r q) = share A B c (at512 j r) q := by
  unfold prod k0_pay2
  rw [shapeCast_self, shapeCast_self, matmul_zero_eq_dotGeneral]
  refine (StackMember.dotGeneral_plain_apply (m := 512) (k := 512) (n := 2048) none (rowsOf (xs m c) j) (ws m c) r q).trans ?_
  refine Finset.sum_congr rfl fun k _ => ?_
  rw [rowsOf_at, x_at h, w_at h]

/-! ## The sum over the ring -/

/-- Going once round the ring meets every device once. -/
theorem round_sum (e : Bool) (j : Dev nD) (G : Dev nD → EReal) :
    G (back e 1 j) + (G (back e 2 j) + (G (back e 3 j) + G j)) = ∑ c, G c := by
  have hb : Function.Bijective (fun k : Fin 4 => back e k.val j) := by revert j; cases e <;> decide
  rw [← hb.sum_comp G, Fin.sum_univ_four]
  show _ = G (back e 0 j) + G (back e 1 j) + G (back e 2 j) + G (back e 3 j)
  rw [back_zero]
  ac_rfl

/-- The sum a chunk has gathered when it arrives at the device that finishes it. -/
theorem acc_three (e : Bool) (j : Dev nD) (i : S512x1024.Idx) :
    acc m e 3 (prv e j) i = ∑ c, (half e (prod m c j) i : EReal) := by
  have e3 : back e 3 (back e 1 j) = j := nxt_prv e j
  have e2 : back e 2 (back e 1 (back e 1 j)) = j := by rw [back_add, back_add]; exact (back_four e 0 j).trans (back_zero e j)
  have e1 : back e 1 (back e 1 (back e 1 (back e 1 j))) = j := by
    rw [back_add, back_add, back_add]; exact (back_four e 0 j).trans (back_zero e j)
  have h : acc m e 3 (prv e j) i = (half e (prod m (back e 1 j) j) i : EReal) + ((half e (prod m (back e 1 (back e 1 j)) j) i : EReal)
      + ((half e (prod m (back e 1 (back e 1 (back e 1 j))) j) i : EReal) + (half e (prod m j j) i : EReal))) := by
    show addf (half e (prod m (back e 1 j) (back e 3 (back e 1 j)))) (addf (half e (prod m (back e 1 (back e 1 j)) (back e 2 (back e 1 (back e 1 j)))))
      (addf (half e (prod m (back e 1 (back e 1 (back e 1 j))) (back e 1 (back e 1 (back e 1 (back e 1 j))))))
        (half e (prod m (back e 1 (back e 1 (back e 1 (back e 1 j)))) (back e 1 (back e 1 (back e 1 (back e 1 j)))))))) i = _
    rw [e3, e2, e1]
    rfl
  rw [h, back_add, back_add]
  exact round_sum e j fun c => half e (prod m c j) i

/-! ## The whole product -/

/-- The sum over 2048 positions, stretch by stretch. -/
theorem sum_at512 (f : Fin 2048 → EReal) : ∑ K, f K = ∑ c : Dev nD, ∑ k : Fin 512, f (at512 c k) := by
  rw [← Fintype.sum_prod_type' (fun (c : Dev nD) (k : Fin 512) => f (at512 c k))]
  refine (Equiv.sum_comp (finProdFinEquiv (m := 4) (n := 512)) f).symm.trans ?_
  refine Finset.sum_congr rfl fun p _ => congrArg f (Fin.ext ?_)
  show p.2.val + 512 * p.1.val = 512 * p.1.val + p.2.val
  exact Nat.add_comm _ _

/-- The result every device ends with, at one index: the activation of the whole product's entry. -/
theorem outAt_at (h : Cut m A B) (i : S2048x2048.Idx) :
    outAt m i = act (∑ K : Fin 2048, A (ix2 (i 0) K) * B (ix2 K (i 1))) := by
  have b0 : (i 0).val < 2048 := (i 0).isLt
  have b1 : (i 1).val < 2048 := (i 1).isLt
  unfold outAt fin
  rw [pay14_at, acc_three, sum_at512]
  refine congrArg act (Finset.sum_congr rfl fun c _ => ?_)
  have hi : (hRect (dirOf i)).emb (placeOf i) = (ix2 (n0 := 512) (n1 := 2048) ⟨(i 0).val % 512, Nat.mod_lt _ (by decide)⟩ (i 1) : S512x2048.Idx) := by
    funext a
    fin_cases a
    · exact Fin.ext (by show hOff (dirOf i) 0 + 1 * ((i 0).val % 512) = _; rw [Nat.one_mul]; exact Nat.zero_add _)
    · refine Fin.ext ?_
      show col (dirOf i) + 1 * ((i 1).val % 1024) = (i 1).val
      unfold dirOf col
      by_cases hd : 1024 ≤ (i 1).val
      · rw [decide_eq_true hd]; show 1024 + _ = _; omega
      · rw [decide_eq_false hd]; show 0 + _ = _; omega
  unfold half
  rw [hi]
  refine (prod_at h c (chunkOf i) _ _).trans ?_
  unfold share
  have hr : at512 (chunkOf i) ⟨(i 0).val % 512, Nat.mod_lt _ (by decide)⟩ = i 0 :=
    Fin.ext (by show 512 * ((i 0).val / 512) + (i 0).val % 512 = (i 0).val; omega)
  rw [hr]

end Cert.KernelIdeal.Ring

end
-- ==== Proof.Agree.lean ====
/-
# The kernel and the reference agree

The reference's result, at one index, is the activation of the whole matrix product's entry; so is what every device's
result array ends with.
-/
module

public import proofs.«01_k».proof.Defs
public import proofs.«01_k».proof.Proof.Equation
public import proofs.«01_k».proof.Proof.Gen.ReferenceIdeal
public import proofs.«01_k».proof.Proof.Gen.ReferenceIdeal.Run

@[expose] public section

noncomputable section

namespace Cert.Agree

open Idealize.ShloMosaic Idealize.ShloMosaic.ValueIdx Idealize.SL.Sem
open Cert.ReferenceIdeal Cert.ReferenceIdeal.Gen
open scoped BigOperators

/-- The whole matrix product, as the reference's host computes it. -/
abbrev whole (A B : S2048x2048.Idx → EReal) : FVec Ideal S2048x2048 .f32 :=
  Host.dotGeneral (F := Ideal) (φ₁ := .f32) (φ₂ := .f32) dot_S2048x2048_S2048x2048_S2048x2048_1_0_0_1_n_n none A B

/-- The reference's result from its two arguments. -/
def refOf (A B : S2048x2048.Idx → EReal) : FVec Ideal S2048x2048 .f32 :=
  mulf (mulf (broadcastInDim S2048x2048 ![] bcast_S_S2048x2048 (constant S_ .f32 0x3F000000#32)) (whole A B))
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf (whole A B) (mulf (broadcastInDim S2048x2048 ![] bcast_S_S2048x2048 (constant S_ .f32 0x3D372713#32))
          (mulf (mulf (whole A B) (whole A B)) (whole A B)))))))

theorem whole_at (A B : S2048x2048.Idx → EReal) (i : S2048x2048.Idx) :
    whole A B i = (∑ K : Fin 2048, A (ix2 (i 0) K) * B (ix2 K (i 1)) : EReal) := by
  have hi : i = (ix2 (n0 := 2048) (n1 := 2048) (i 0) (i 1) : S2048x2048.Idx) := by funext a; fin_cases a <;> rfl
  refine (congrArg (whole A B) hi).trans ?_
  exact StackMember.dotGeneral_plain_apply (m := 2048) (k := 2048) (n := 2048) (φ₁ := .f32) (φ₂ := .f32) none A B (i 0) (i 1)

/-- The reference's result at one index. -/
theorem refOf_at (A B : S2048x2048.Idx → EReal) (i : S2048x2048.Idx) :
    refOf A B i = Cert.KernelIdeal.Ring.act (∑ K : Fin 2048, A (ix2 (i 0) K) * B (ix2 K (i 1))) := by
  rw [← whole_at]
  rfl

/-- From memories where every device has its blocks of the reference's arguments, both programs run, every device's result
array ends as the reference's result, and the arguments of both end unchanged. -/
theorem algebraic : Cert.algebraic_KernelIdeal_ReferenceIdeal := fun m ρ m' ρ' _ hcut => by
  refine ⟨refOf (m' (((0 : Dev nD).tc : Thread nD τ).loc main_arg0)) (m' (((0 : Dev nD).tc : Thread nD τ).loc main_arg1)), ?_, ?_⟩
  · refine (θ_run (Cert.KernelIdeal.defs (F := Ideal)) _ _).mono (fun _ h c => ⟨?_,
      (h.1 c (0 : Fin 3)).trans (Cert.KernelIdeal.Ring.finalA_x m ρ c),
      (h.1 c (1 : Fin 3)).trans (Cert.KernelIdeal.Ring.finalA_w m ρ c)⟩) (Cert.KernelIdeal.Ring.run_main (F := Ideal) m ρ)
    refine ((h.1 c (2 : Fin 3)).trans (Cert.KernelIdeal.Ring.finalA_out m ρ c)).trans (funext fun i => ?_)
    exact (Cert.KernelIdeal.Ring.outAt_at hcut i).trans (refOf_at _ _ i).symm
  · exact (θ_run (Cert.ReferenceIdeal.defs (F := Ideal)) _ _).mono (fun _ h => h 0) (Cert.ReferenceIdeal.Value.run m' ρ')

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- Over any kind of float, the kernel runs to its end on four devices, its arguments unchanged and every counter at
zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run (Cert.KernelIdeal.defs (F := F)) _ _).mono
    (fun _ h => ⟨fun c => ⟨(h.1 c (0 : Fin 3)).trans (Cert.KernelIdeal.Ring.finalA_x m ρ c),
      (h.1 c (1 : Fin 3)).trans (Cert.KernelIdeal.Ring.finalA_w m ρ c)⟩, h.2⟩)
    (Cert.KernelIdeal.Ring.run_main (F := F) m ρ)

/-- The kernel as printed runs to its end on bit patterns, its arguments unchanged and every counter at zero. -/
theorem frame_kernel : Cert.quiescent_Kernel := fun m ρ _ => by
  rw [Cert.Same.defs_eq]
  exact frame_any (F := Bits) m ρ

/-- The kernel over the extended reals runs to its end, its arguments unchanged and every counter at zero. -/
theorem frame_kernelIdeal : Cert.quiescent_KernelIdeal := fun m ρ _ => frame_any (F := Ideal) m ρ

/-- The reference runs to its end, its arguments unchanged; it has no counters. -/
theorem frame_reference : Cert.quiescent_ReferenceIdeal := fun m ρ _ =>
  (θ_run (Cert.ReferenceIdeal.defs (F := Ideal)) _ _).mono
    (fun _ h => ⟨fun c => (h c).2, sem_eq_zero_of_no_sems rfl _⟩)
    (Cert.ReferenceIdeal.Value.run m ρ)

/-- Every claim of the certificate. -/
theorem claim : Cert.Claim := ⟨Cert.Kernel.Gen.facts, Cert.KernelIdeal.Gen.facts, Cert.ReferenceIdeal.Gen.facts,
  frame_kernel, frame_kernelIdeal, frame_reference, trivial, Cert.Agree.algebraic⟩

end Cert.Proof

end
